-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_is_finite [hPre_gamma_is_finite : Cert.Pre_gamma_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_is_finite [hPre_gamma_is_finite : Cert.Pre_gamma_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_gamma_is_finite [hKernelIdeal : Cert.KernelIdeal.Facts] [hPre_gamma_is_finite : Cert.Pre_gamma_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_gamma_is_finite [hReferenceIdeal : Cert.ReferenceIdeal.Facts] [hPre_gamma_is_finite : Cert.Pre_gamma_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_gamma_is_finite [hKernelIdeal : Cert.KernelIdeal.Facts] [hReferenceIdeal : Cert.ReferenceIdeal.Facts] [hPre_gamma_is_finite : Cert.Pre_gamma_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_gamma_is_finite : Cert.Pre_gamma_is_finite.Facts),
    quiescent_Kernel (hKernel := hKernel)
    ∧ quiescent_KernelIdeal (hKernelIdeal := hKernelIdeal)
    ∧ quiescent_KernelIdeal_pre_gamma_is_finite (hKernelIdeal := hKernelIdeal) (hPre_gamma_is_finite := hPre_gamma_is_finite)
    ∧ quiescent_ReferenceIdeal (hReferenceIdeal := hReferenceIdeal)
    ∧ quiescent_ReferenceIdeal_pre_gamma_is_finite (hReferenceIdeal := hReferenceIdeal) (hPre_gamma_is_finite := hPre_gamma_is_finite)
    ∧ preserves_Kernel_KernelIdeal
    ∧ algebraic_KernelIdeal_ReferenceIdeal_pre_gamma_is_finite (hKernelIdeal := hKernelIdeal) (hReferenceIdeal := hReferenceIdeal) (hPre_gamma_is_finite := hPre_gamma_is_finite)
-- ==== Pre_gamma_is_finite.lean ====
abbrev S14x4096x2048 : Shape := ⟨3, ![14, 4096, 2048]⟩
abbrev S2048 : Shape := ⟨1, ![2048]⟩
abbrev S_ : Shape := ⟨0, ![]⟩

class Facts : Prop where
  bitsLt_bf16_f32 : FTy.bits .bf16 < FTy.bits .f32
  bcast_S_S2048 : S_.BroadcastsInDim S2048 (![] : Fin 0 → Fin S2048.rank)

variable [Facts]

def fn {F : FTy → Type} [FloatOps F] (main_arg0 : FVec F S14x4096x2048 .bf16) (main_arg1 : FVec F S2048 .bf16) : IVec S2048 1 :=
  let main_v0 : FVec F S2048 .f32 := (extf .f32 · bitsLt_bf16_f32) main_arg1
  let main_v1 : FVec F S2048 .f32 := Host.absf main_v0
  let main_cst : FVec F S_ .f32 := constant S_ .f32 0x7F7F0000#32
  let main_v2 : FVec F S2048 .f32 := broadcastInDim S2048 ![] bcast_S_S2048 main_cst
  let main_v3 : IVec S2048 1 := cmpf .ole main_v1 main_v2
  main_v3
-- ==== Kernel.lean ====
abbrev S14x4096x2048 : Shape := ⟨3, ![14, 4096, 2048]⟩
abbrev S2048 : Shape := ⟨1, ![2048]⟩
abbrev S57344x2048 : Shape := ⟨2, ![57344, 2048]⟩
abbrev S1x2048 : Shape := ⟨2, ![1, 2048]⟩
abbrev S16x57344 : Shape := ⟨2, ![16, 57344]⟩
abbrev S2048x57344 : Shape := ⟨2, ![2048, 57344]⟩
abbrev S448x2048 : Shape := ⟨2, ![448, 2048]⟩
abbrev S448x128 : Shape := ⟨2, ![448, 128]⟩
abbrev S1024x2048 : Shape := ⟨2, ![1024, 2048]⟩
abbrev S16x1024 : Shape := ⟨2, ![16, 1024]⟩
abbrev S2048x1024 : Shape := ⟨2, ![2048, 1024]⟩
abbrev S8x2048 : Shape := ⟨2, ![8, 2048]⟩
abbrev S8x128 : Shape := ⟨2, ![8, 128]⟩
abbrev S128x2048 : Shape := ⟨2, ![128, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S256x128 : Shape := ⟨2, ![256, 128]⟩
abbrev S57344x16 : Shape := ⟨2, ![57344, 16]⟩
abbrev S2048x448 : Shape := ⟨2, ![2048, 448]⟩
abbrev S57344 : Shape := ⟨1, ![57344]⟩

abbrev nBuf : Space → Nat
  | .hbm => 12
  | .vmem => 13
  | .smem => 0
  | _ => 0

abbrev bufTy : (tb : Table) → Fin (tcTables nBuf tb) → BufTy
  | .hbm, ⟨0, _⟩ => ⟨S14x4096x2048, .bf16⟩
  | .hbm, ⟨1, _⟩ => ⟨S2048, .bf16⟩
  | .hbm, ⟨2, _⟩ => ⟨S57344x2048, .bf16⟩
  | .hbm, ⟨3, _⟩ => ⟨S1x2048, .bf16⟩
  | .hbm, ⟨4, _⟩ => ⟨S57344x2048, .fp8e4m3⟩
  | .hbm, ⟨5, _⟩ => ⟨S16x57344, .f32⟩
  | .hbm, ⟨6, _⟩ => ⟨S2048x57344, .fp8e4m3⟩
  | .hbm, ⟨7, _⟩ => ⟨S448x2048, .f32⟩
  | .hbm, ⟨8, _⟩ => ⟨S448x128, .f32⟩
  | .hbm, ⟨9, _⟩ => ⟨S57344x16, .f32⟩
  | .hbm, ⟨10, _⟩ => ⟨S2048x448, .f32⟩
  | .hbm, ⟨11, _⟩ => ⟨S57344, .f32⟩
  | .local _ .vmem, ⟨0, _⟩ => ⟨S1024x2048, .bf16⟩
  | .local _ .vmem, ⟨1, _⟩ => ⟨S1024x2048, .bf16⟩
  | .local _ .vmem, ⟨2, _⟩ => ⟨S1x2048, .bf16⟩
  | .local _ .vmem, ⟨3, _⟩ => ⟨S1024x2048, .fp8e4m3⟩
  | .local _ .vmem, ⟨4, _⟩ => ⟨S1024x2048, .fp8e4m3⟩
  | .local _ .vmem, ⟨5, _⟩ => ⟨S16x1024, .f32⟩
  | .local _ .vmem, ⟨6, _⟩ => ⟨S16x1024, .f32⟩
  | .local _ .vmem, ⟨7, _⟩ => ⟨S2048x1024, .fp8e4m3⟩
  | .local _ .vmem, ⟨8, _⟩ => ⟨S2048x1024, .fp8e4m3⟩
  | .local _ .vmem, ⟨9, _⟩ => ⟨S8x2048, .f32⟩
  | .local _ .vmem, ⟨10, _⟩ => ⟨S8x2048, .f32⟩
  | .local _ .vmem, ⟨11, _⟩ => ⟨S8x128, .f32⟩
  | .local _ .vmem, ⟨12, _⟩ => ⟨S8x128, .f32⟩
  | _, _ => ⟨S14x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S14x4096x2048 : Shape := ⟨3, ![14, 4096, 2048]⟩
abbrev S2048 : Shape := ⟨1, ![2048]⟩
abbrev S57344x2048 : Shape := ⟨2, ![57344, 2048]⟩
abbrev S57344x16 : Shape := ⟨2, ![57344, 16]⟩
abbrev S2048x57344 : Shape := ⟨2, ![2048, 57344]⟩
abbrev S2048x448 : Shape := ⟨2, ![2048, 448]⟩
abbrev S57344 : Shape := ⟨1, ![57344]⟩
abbrev S57344x1 : Shape := ⟨2, ![57344, 1]⟩
abbrev S1x2048 : Shape := ⟨2, ![1, 2048]⟩
abbrev S57344x16x128 : Shape := ⟨3, ![57344, 16, 128]⟩
abbrev S1x254 : Shape := ⟨2, ![1, 254]⟩
abbrev S254 : Shape := ⟨1, ![254]⟩
abbrev S57344x16x1 : Shape := ⟨3, ![57344, 16, 1]⟩
abbrev S1x1x254 : Shape := ⟨3, ![1, 1, 254]⟩
abbrev S57344x16x254 : Shape := ⟨3, ![57344, 16, 254]⟩
abbrev S2048x448x128 : Shape := ⟨3, ![2048, 448, 128]⟩
abbrev S2048x448x1 : Shape := ⟨3, ![2048, 448, 1]⟩
abbrev S2048x448x254 : Shape := ⟨3, ![2048, 448, 254]⟩

abbrev nBuf : Space → Nat
  | .hbm => 8
  | .vmem => 7
  | .smem => 0
  | _ => 0

abbrev bufTy : (tb : Table) → Fin (tcTables nBuf tb) → BufTy
  | .hbm, ⟨0, _⟩ => ⟨S14x4096x2048, .bf16⟩
  | .hbm, ⟨1, _⟩ => ⟨S2048, .bf16⟩
  | .hbm, ⟨2, _⟩ => ⟨S57344x2048, .bf16⟩
  | .hbm, ⟨3, _⟩ => ⟨S57344x2048, .fp8e4m3⟩
  | .hbm, ⟨4, _⟩ => ⟨S57344x16, .f32⟩
  | .hbm, ⟨5, _⟩ => ⟨S2048x57344, .fp8e4m3⟩
  | .hbm, ⟨6, _⟩ => ⟨S2048x448, .f32⟩
  | .hbm, ⟨7, _⟩ => ⟨S57344, .f32⟩
  | .local _ .vmem, ⟨0, _⟩ => ⟨S57344x2048, .bf16⟩
  | .local _ .vmem, ⟨1, _⟩ => ⟨S2048, .bf16⟩
  | .local _ .vmem, ⟨2, _⟩ => ⟨S57344x2048, .fp8e4m3⟩
  | .local _ .vmem, ⟨3, _⟩ => ⟨S57344x16, .f32⟩
  | .local _ .vmem, ⟨4, _⟩ => ⟨S2048x57344, .fp8e4m3⟩
  | .local _ .vmem, ⟨5, _⟩ => ⟨S2048x448, .f32⟩
  | .local _ .vmem, ⟨6, _⟩ => ⟨S57344, .f32⟩
  | _, _ => ⟨S14x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S57344x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S57344x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S57344x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x57344 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x448 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S57344 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/-
  The scale of a group of values, as the kernel finds it and as the mathematics states it.

  A group with largest magnitude `a` gets the power of two `2^e` as its scale, where `p = a · (1/448)` and
  `2^(e-1) ≤ p < 2^e` (`e = 0` for a group of zeros, and `e = -126` for a `p` below `2^-126`).
  The kernel finds `e` from the exponent field of `p` and writes `2^e` and `2^-e` down as words whose exponent
  fields are `e + 127` and `127 - e`. The mathematics takes the least integer `e ≥ -126` with `p < 2^e`, and
  `exp2 e`, `exp2 (-e)`. Here the two are shown equal for every `p` from 0 to below `2^126`.
-/
module

public import Idealize.ShloMosaic.PureOps.Ideal
public import Idealize.ShloMosaic.Lib.Pointwise

@[expose] public section

set_option maxRecDepth 16384

noncomputable section

namespace Cert.Scale

open Idealize.ShloMosaic

/-- The factor `1/448`, rounded to f32. -/
def c448 : EReal := Ideal.ofBits .f32 0x3B124925#32

/-- The float whose exponent field is `k` and whose mantissa is zero. -/
def power (k : ℕ) : EReal := Ideal.ofBits .f32 (BitVec.ofNat 32 k <<< 23)

/-- The kernel's exponent field of `p`: the greatest `k < 256` with `power k ≤ p`, as an integer word. -/
def field (p : EReal) : BitVec 32 :=
  Ideal.fptosi 32 (Finset.univ.fold max ⊥ fun k : Fin 256 =>
    if power k ≤ p then (((BitVec.ofNat 32 k).toInt : ℝ) : EReal) else 0)

/-- The kernel's exponent `e` of a group with largest magnitude `a`. -/
def kexp (a : EReal) : BitVec 32 := if a = 0 then 0#32 else field (a * c448) - 126#32

/-- The kernel's scale `2^e`. -/
def kscale (a : EReal) : EReal := Ideal.ofBits .f32 ((kexp a + 127#32) <<< 23)

/-- The kernel's inverse scale `2^-e`. -/
def kinv (a : EReal) : EReal := Ideal.ofBits .f32 ((127#32 - kexp a) <<< 23)

/-- The integers `-126, …, 127` as the mathematics counts them. -/
def cand (k : ℕ) : EReal := (((4294967170#32 + BitVec.ofNat 32 k).toInt : ℝ) : EReal)

/-- The mathematics' exponent `e`: the least of `-126, …, 127` with `p < 2^e` (128 if there is none), 0 for a group of zeros. -/
def rexp (a : EReal) : EReal :=
  if a = 0 then 0
  else Finset.univ.fold min ⊤ fun k : Fin 254 =>
    if a * c448 < Ideal.exp2 (cand k) then cand k else Ideal.ofBits .f32 0x43000000#32

/-- The mathematics' scale `2^e`. -/
def rscale (a : EReal) : EReal := Ideal.exp2 (rexp a)

/-- The mathematics' inverse scale `2^-e`. -/
def rinv (a : EReal) : EReal := Ideal.exp2 (0 - rexp a)

/-- The parts of the word with exponent field `k`: its exponent is `k`, its mantissa and its sign are zero. -/
theorem word_parts : ∀ k : Fin 256, (((BitVec.ofNat 32 k) <<< 23).extractLsb' 23 8).toNat = k.val
    ∧ (((BitVec.ofNat 32 k) <<< 23).extractLsb' 0 23).toNat = 0
    ∧ (((BitVec.ofNat 32 k) <<< 23).extractLsb' 31 1 == 1#1) = false := by decide +kernel

theorem cand_eq {k : ℕ} (h : k < 254) : cand k = (((k : ℤ) - 126 : ℤ) : ℝ) := by
  have key : ∀ k : Fin 254, (4294967170#32 + BitVec.ofNat 32 k).toInt = (k.val : ℤ) - 126 := by decide +kernel
  unfold cand
  rw [key ⟨k, h⟩]

theorem toInt_eq {k : ℕ} (h : k < 256) : (BitVec.ofNat 32 k).toInt = (k : ℤ) := by
  have key : ∀ k : Fin 256, (BitVec.ofNat 32 k).toInt = (k.val : ℤ) := by decide +kernel
  exact key ⟨k, h⟩

/-- A word with exponent field between 1 and 254 is the power of two of that field. -/
theorem power_eq {k : ℕ} (h1 : 1 ≤ k) (h2 : k ≤ 254) : power k = (((2 : ℝ) ^ ((k : ℤ) - 127) : ℝ) : EReal) := by
  obtain ⟨he, hf, hs⟩ := word_parts ⟨k, by omega⟩
  dsimp only at he hf hs
  have a1 : k ≠ 2 ^ 8 - 1 := by omega
  have a2 : k ≠ 0 := by omega
  have real : (1 : ℝ) * ((2 ^ 23 + 0 : ℕ) : ℝ) * (2 : ℝ) ^ ((k : ℤ) - (2 ^ (8 - 1) - 1) - (23 : ℕ))
      = (2 : ℝ) ^ ((k : ℤ) - 127) := by
    rw [zpow_sub₀ (by norm_num) _ ((23 : ℕ) : ℤ), zpow_natCast]
    norm_num
    ring
  simp only [power, Ideal.ofBits, Ideal.ieee]
  rw [he, hf, hs, if_neg a1, if_neg a2]
  exact congrArg Real.toEReal real

/-- A word with exponent field 0 is zero, -/
theorem power_zero : power 0 = 0 := by
  obtain ⟨he, hf, hs⟩ := word_parts ⟨0, by omega⟩
  dsimp only at he hf hs
  simp only [power, Ideal.ofBits, Ideal.ieee]
  rw [he, hf, hs, if_neg (by norm_num), if_pos rfl]
  norm_num

/-- and with exponent field 255 it is the infinity. -/
theorem power_top : power 255 = ⊤ := by
  obtain ⟨he, hf, hs⟩ := word_parts ⟨255, by omega⟩
  dsimp only at he hf hs
  simp only [power, Ideal.ofBits, Ideal.ieee]
  rw [he, hf, hs, if_pos (by norm_num), if_pos rfl]
  rfl

/-- The word of minus infinity, from which each maximum starts. -/
theorem bot_word : Ideal.ofBits .f32 0xFF800000#32 = ⊥ := by
  have h1 : ((0xFF800000#32).extractLsb' 23 8).toNat = 255 := by decide
  have h2 : ((0xFF800000#32).extractLsb' 0 23).toNat = 0 := by decide
  have h3 : ((0xFF800000#32).extractLsb' 31 1 == 1#1) = true := by decide
  simp only [Ideal.ofBits, Ideal.ieee]
  rw [h1, h2, h3, if_pos (by norm_num), if_pos rfl, if_pos rfl]

/-- `n` places `p`: `p` is below `2^(n-126)`, and not below `2^(n-127)` unless `n = 0`. -/
structure Places (p : EReal) (n : ℕ) : Prop where
  le : n ≤ 252
  lt : p < (((2 : ℝ) ^ ((n : ℤ) - 126) : ℝ) : EReal)
  ge : n ≠ 0 → (((2 : ℝ) ^ ((n : ℤ) - 127) : ℝ) : EReal) ≤ p

/-- Every `p` below `2^126` has its place. -/
theorem exists_places {p : EReal} (h : p < (((2 : ℝ) ^ (126 : ℤ) : ℝ) : EReal)) : ∃ n, Places p n := by
  have ex : ∃ n : ℕ, p < (((2 : ℝ) ^ ((n : ℤ) - 126) : ℝ) : EReal) := ⟨252, by simpa using h⟩
  classical
  refine ⟨Nat.find ex, Nat.find_le (by simpa using h), Nat.find_spec ex, fun h0 => ?_⟩
  have := Nat.find_min ex (m := Nat.find ex - 1) (by omega)
  rw [not_lt] at this
  have e : (((Nat.find ex - 1 : ℕ) : ℤ) - 126) = (Nat.find ex : ℤ) - 127 := by omega
  rwa [e] at this

theorem zpow_two_lt {a b : ℤ} : (((2 : ℝ) ^ a : ℝ) : EReal) < (((2 : ℝ) ^ b : ℝ) : EReal) ↔ a < b := by
  rw [EReal.coe_lt_coe_iff]
  exact zpow_lt_zpow_iff_right₀ (by norm_num)

/-- The exponent field of a `p` is its place. -/
theorem field_eq {p : EReal} {n : ℕ} (h0 : 0 ≤ p) (h : Places p n) : field p = BitVec.ofNat 32 n := by
  have hfold : (Finset.univ.fold max ⊥ fun k : Fin 256 =>
      if power k ≤ p then (((BitVec.ofNat 32 k).toInt : ℝ) : EReal) else 0) = ((n : ℝ) : EReal) := by
    apply le_antisymm
    · rw [Finset.fold_max_le]
      refine ⟨bot_le, fun k _ => ?_⟩
      have hk := k.isLt
      rw [toInt_eq hk]
      split
      · next hp =>
        by_cases k0 : k.val = 0
        · rw [k0]; exact_mod_cast Nat.zero_le n
        · by_cases k1 : k.val = 255
          · rw [k1, power_top] at hp
            exact absurd (lt_of_le_of_lt hp h.lt) (by simp)
          · rw [power_eq (by omega) (by omega)] at hp
            have := zpow_two_lt.1 (lt_of_le_of_lt hp h.lt)
            have : k.val ≤ n := by omega
            exact_mod_cast this
      · exact_mod_cast Nat.zero_le n
    · rw [Finset.le_fold_max]
      refine Or.inr ⟨⟨n, by have := h.le; omega⟩, Finset.mem_univ _, ?_⟩
      dsimp only
      have hn := h.le
      rw [toInt_eq (by omega), if_pos]
      · norm_cast
      · by_cases n0 : n = 0
        · rw [n0, power_zero]; exact h0
        · rw [power_eq (by omega) (by omega)]; exact h.ge n0
  have hn := h.le
  unfold field
  rw [hfold]
  simp only [Ideal.fptosi, Ideal.toIntClamped_coe]
  rw [if_pos (by positivity), Int.floor_natCast]
  rw [show max (-((2 ^ (32 - 1) : ℕ) : ℤ)) (min (((2 ^ (32 - 1) : ℕ) : ℤ) - 1) (n : ℤ)) = (n : ℤ) by norm_num; omega]
  rfl

/-- The mathematics' exponent is the place less 126. -/
theorem rexp_eq {a : EReal} {n : ℕ} (ha : a ≠ 0) (h : Places (a * c448) n) :
    rexp a = ((((n : ℤ) - 126 : ℤ) : ℝ) : EReal) := by
  have e2 : ∀ k : ℕ, k < 254 → Ideal.exp2 (cand k) = (((2 : ℝ) ^ ((k : ℤ) - 126) : ℝ) : EReal) := fun k hk => by
    rw [cand_eq hk, Ideal.exp2_coe]
    congr 1
    exact Real.rpow_intCast 2 _
  have c128 : Ideal.ofBits .f32 0x43000000#32 = (((128 : ℤ) : ℝ) : EReal) := by
    have := power_eq (k := 134) (by norm_num) (by norm_num)
    rw [show Ideal.ofBits .f32 0x43000000#32 = power 134 from rfl, this]
    norm_num
  have hn := h.le
  unfold rexp
  rw [if_neg ha]
  apply le_antisymm
  · rw [Finset.fold_min_le]
    refine Or.inr ⟨⟨n, by omega⟩, Finset.mem_univ _, ?_⟩
    dsimp only
    rw [e2 n (by omega), if_pos h.lt, cand_eq (by omega)]
  · rw [Finset.le_fold_min]
    refine ⟨le_top, fun k _ => ?_⟩
    rw [e2 k k.isLt, cand_eq k.isLt, c128]
    split
    · next hp =>
      have : n ≤ k.val := by
        by_cases n0 : n = 0
        · omega
        · have := zpow_two_lt.1 (lt_of_le_of_lt (h.ge n0) hp)
          omega
      have : (n : ℤ) - 126 ≤ (k.val : ℤ) - 126 := by omega
      exact_mod_cast this
    · have : (n : ℤ) - 126 ≤ 128 := by omega
      exact_mod_cast this

theorem exp2_int (z : ℤ) : Ideal.exp2 (((z : ℝ)) : EReal) = (((2 : ℝ) ^ z : ℝ) : EReal) := by
  rw [Ideal.exp2_coe]
  congr 1
  exact Real.rpow_intCast 2 _

theorem rinv_of {a : EReal} {z : ℤ} (h : rexp a = ((z : ℝ) : EReal)) : rinv a = (((2 : ℝ) ^ (-z) : ℝ) : EReal) := by
  unfold rinv
  rw [h, ← exp2_int, zero_sub]
  norm_num

/-- The kernel's exponent as a word, when it is the integer `n - 126`. -/
theorem kexp_words {n : ℕ} (hn : n ≤ 252) :
    (BitVec.ofNat 32 n - 126#32 + 127#32) = BitVec.ofNat 32 (n + 1)
    ∧ (127#32 - (BitVec.ofNat 32 n - 126#32)) = BitVec.ofNat 32 (253 - n) := by
  have key : ∀ n : Fin 253, (BitVec.ofNat 32 n.val - 126#32 + 127#32) = BitVec.ofNat 32 (n.val + 1)
    ∧ (127#32 - (BitVec.ofNat 32 n.val - 126#32)) = BitVec.ofNat 32 (253 - n.val) := by decide +kernel
  exact key ⟨n, by omega⟩

/-- For every group whose `p` is from 0 to below `2^126`, the kernel's scale is the mathematics' scale, -/
theorem kscale_eq {a : EReal} (h0 : 0 ≤ a * c448) (h : a * c448 < (((2 : ℝ) ^ (126 : ℤ) : ℝ) : EReal)) :
    kscale a = rscale a := by
  by_cases ha : a = 0
  · unfold kscale rscale kexp rexp
    rw [if_pos ha, if_pos ha]
    have := exp2_int 0
    rw [show Ideal.ofBits .f32 ((0#32 + 127#32) <<< 23) = power 127 from rfl, power_eq (by norm_num) (by norm_num)]
    simpa using this.symm
  · obtain ⟨n, hn⟩ := exists_places h
    have hle := hn.le
    unfold kscale rscale kexp
    rw [if_neg ha, field_eq h0 hn, rexp_eq ha hn, (kexp_words hle).1, exp2_int]
    rw [show Ideal.ofBits .f32 (BitVec.ofNat 32 (n + 1) <<< 23) = power (n + 1) from rfl, power_eq (by omega) (by omega)]
    congr 2
    push_cast
    ring

/-- and so are the inverse scales. -/
theorem kinv_eq {a : EReal} (h0 : 0 ≤ a * c448) (h : a * c448 < (((2 : ℝ) ^ (126 : ℤ) : ℝ) : EReal)) :
    kinv a = rinv a := by
  by_cases ha : a = 0
  · unfold kinv kexp
    have hr : rexp a = (((0 : ℤ) : ℝ) : EReal) := by unfold rexp; rw [if_pos ha]; norm_num
    rw [if_pos ha, rinv_of hr]
    rw [show Ideal.ofBits .f32 ((127#32 - 0#32) <<< 23) = power 127 from rfl, power_eq (by norm_num) (by norm_num)]
    norm_num
  · obtain ⟨n, hn⟩ := exists_places h
    have hle := hn.le
    unfold kinv kexp
    rw [if_neg ha, field_eq h0 hn, rinv_of (rexp_eq ha hn), (kexp_words hle).2]
    rw [show Ideal.ofBits .f32 (BitVec.ofNat 32 (253 - n) <<< 23) = power (253 - n) from rfl, power_eq (by omega) (by omega)]
    congr 2
    omega

end Cert.Scale

end
-- ==== Proof.Formula.lean ====
/-
  The five results as formulas over the two arguments, at the extended reals.

  `X r j` is the activation at row `r` and column `j`, and `g j` the weight of column `j`. Row `r` is scaled by
  `rsig X r`, the reciprocal root of its mean square plus epsilon, and by the weights: `y X g r j`. The scaled array
  is quantised twice: in groups of 128 columns of one row (largest magnitude `rowMax`), and in groups of 128 rows of
  one column (`colMax`). The second half bounds a group's largest magnitude: with finite weights it is at most
  `2^134`, whatever the activations are, so the `p` of Scale.lean is below `2^126`.
-/
module

public import proofs.«01_k».proof.Proof.Scale

@[expose] public section

set_option maxRecDepth 16384

noncomputable section

namespace Cert.Formula

open Idealize.ShloMosaic Cert.Scale

/-- The epsilon of the mean square. -/
def eps : EReal := Ideal.ofBits .f32 0x3727C5AC#32

/-- The largest and the least code, 448 and -448. -/
def hi : EReal := Ideal.ofBits .f32 0x43E00000#32
def lo : EReal := Ideal.ofBits .f32 0xC3E00000#32

variable (X : ℕ → ℕ → EReal) (g : ℕ → EReal)

/-- The sum of squares of row `r`. -/
def sumSq (r : ℕ) : EReal := ∑ j : Fin 2048, X r j * X r j

/-- The reciprocal root mean square of row `r`. -/
def rsig (r : ℕ) : EReal := Ideal.rsqrt (sumSq X r * power 116 + eps)

/-- The normalised and weighted activation. -/
def y (r c : ℕ) : EReal := X r c * rsig X r * g c

/-- The magnitude of a value. -/
def mag (v : EReal) : EReal := max v (-v)

/-- The largest magnitude of row `r` in the group `b` of 128 columns. -/
def rowMax (r b : ℕ) : EReal := Finset.univ.fold max ⊥ fun k : Fin 128 => mag (y X g r (128 * b + k))

/-- The largest magnitude of column `c` in the group `b` of 128 rows. -/
def colMax (b c : ℕ) : EReal := Finset.univ.fold max ⊥ fun k : Fin 128 => mag (y X g (128 * b + k) c)

/-- A value times the inverse scale of its group, clipped to the range of the codes. -/
def code (v i : EReal) : EReal := min hi (max lo (v * i))

/-! ## The size of a group -/

/-- `2^-11`, the reciprocal of the row length. -/
theorem power_116 : power 116 = ((1 / 2048 : ℝ) : EReal) := by
  rw [power_eq (by norm_num) (by norm_num)]
  norm_num

/-- A sum divided by the row length is the sum times `2^-11`. -/
theorem mean_eq (s : EReal) : Ideal.div s (Ideal.ofBits .f32 0x45000000#32) = s * power 116 := by
  rw [show Ideal.ofBits .f32 0x45000000#32 = power 138 from rfl, power_eq (by norm_num) (by norm_num), power_116,
    Ideal.div_coe (by norm_num)]
  norm_num

theorem eps_eq : ∃ e : ℝ, 0 < e ∧ eps = (e : EReal) := by
  refine ⟨(2 ^ 23 + 2606508 : ℕ) * (2 : ℝ) ^ (-40 : ℤ), by positivity, ?_⟩
  have h1 : ((0x3727C5AC#32).extractLsb' 23 8).toNat = 110 := by decide
  have h2 : ((0x3727C5AC#32).extractLsb' 0 23).toNat = 2606508 := by decide
  have h3 : ((0x3727C5AC#32).extractLsb' 31 1 == 1#1) = false := by decide
  simp only [eps, Ideal.ofBits, Ideal.ieee]
  rw [h1, h2, h3, if_neg (by norm_num), if_neg (by norm_num)]
  refine congrArg Real.toEReal ?_
  norm_num

/-- The factor `1/448` is positive and below `2^-8`. -/
theorem c448_eq : ∃ q : ℝ, 0 < q ∧ q < (2 : ℝ) ^ (-8 : ℤ) ∧ c448 = (q : EReal) := by
  refine ⟨(2 ^ 23 + 1198373 : ℕ) * (2 : ℝ) ^ (-32 : ℤ), by positivity, by norm_num, ?_⟩
  have h1 : ((0x3B124925#32).extractLsb' 23 8).toNat = 118 := by decide
  have h2 : ((0x3B124925#32).extractLsb' 0 23).toNat = 1198373 := by decide
  have h3 : ((0x3B124925#32).extractLsb' 31 1 == 1#1) = false := by decide
  simp only [c448, Ideal.ofBits, Ideal.ieee]
  rw [h1, h2, h3, if_neg (by norm_num), if_neg (by norm_num)]
  refine congrArg Real.toEReal ?_
  norm_num

/-- A magnitude is never negative. -/
theorem mag_nonneg (v : EReal) : 0 ≤ mag v := by
  unfold mag
  rcases le_total 0 v with h | h
  · exact le_max_of_le_left h
  · exact le_max_of_le_right (by simpa using EReal.neg_le_neg_iff.2 h)

theorem mul_self_nonneg (v : EReal) : 0 ≤ v * v := by
  rcases le_total 0 v with h | h
  · exact mul_nonneg h h
  · rw [← neg_mul_neg]
    have : 0 ≤ -v := by simpa using EReal.neg_le_neg_iff.2 h
    exact mul_nonneg this this

theorem sq_le_sumSq (r : ℕ) {c : ℕ} (hc : c < 2048) : X r c * X r c ≤ sumSq X r :=
  Finset.single_le_sum (f := fun j : Fin 2048 => X r j * X r j) (fun _ _ => mul_self_nonneg _) (Finset.mem_univ (⟨c, hc⟩ : Fin 2048))

/-- A normalised activation is a real number of magnitude at most 64: a finite row has no entry above the root of its
    sum of squares, and a row with an infinite entry is scaled by zero. -/
theorem norm_le (r : ℕ) {c : ℕ} (hc : c < 2048) : ∃ u : ℝ, |u| ≤ 64 ∧ X r c * rsig X r = (u : EReal) := by
  obtain ⟨e, he, heq⟩ := eps_eq
  have hle := sq_le_sumSq X r hc
  unfold rsig
  rw [heq, power_116]
  generalize sumSq X r = s at *
  have hs0 : 0 ≤ s := (mul_self_nonneg _).trans hle
  induction s using EReal.rec with
  | bot => exact absurd hs0 (by simp)
  | top =>
    refine ⟨0, by norm_num, ?_⟩
    rw [EReal.top_mul_coe_of_pos (by norm_num), EReal.top_add_coe, Ideal.rsqrt_top, mul_zero]
    rfl
  | coe s =>
    generalize X r c = x at *
    have hs : 0 ≤ s := by exact_mod_cast hs0
    have hpos : 0 < s * (1 / 2048) + e := by positivity
    induction x using EReal.rec with
    | bot => exact absurd hle (by simp)
    | top => exact absurd hle (by simp)
    | coe x =>
      have hx : x * x ≤ s := by exact_mod_cast hle
      refine ⟨x * (Real.sqrt (s * (1 / 2048) + e))⁻¹, ?_, ?_⟩
      · have hq : 0 < Real.sqrt (s * (1 / 2048) + e) := Real.sqrt_pos.2 hpos
        rw [abs_mul, abs_inv, abs_of_pos hq, ← div_eq_mul_inv, div_le_iff₀ hq]
        apply abs_le_of_sq_le_sq _ (by positivity)
        rw [mul_pow, Real.sq_sqrt hpos.le]
        nlinarith
      · rw [← EReal.coe_mul, ← EReal.coe_add, Ideal.rsqrt_coe, if_neg (not_lt.2 hpos.le), if_neg hpos.ne', ← EReal.coe_mul]

/-- What the precondition says of the weights: each is a real number of magnitude below `2^128`. -/
def Finite : Prop := ∀ c < 2048, ∃ w : ℝ, |w| ≤ (2 : ℝ) ^ 128 ∧ g c = (w : EReal)

variable {g}

/-- With finite weights every value is of magnitude at most `2^134`. -/
theorem mag_le (hg : Finite g) (r : ℕ) {c : ℕ} (hc : c < 2048) : mag (y X g r c) ≤ (((2 : ℝ) ^ 134 : ℝ) : EReal) := by
  obtain ⟨u, hu, e⟩ := norm_le X r hc
  obtain ⟨w, hw, e'⟩ := hg c hc
  unfold y mag
  rw [e, e', ← EReal.coe_mul, ← EReal.coe_neg]
  have h : |u * w| ≤ (2 : ℝ) ^ 134 := by
    rw [abs_mul]
    calc |u| * |w| ≤ 64 * (2 : ℝ) ^ 128 := mul_le_mul hu hw (abs_nonneg _) (by norm_num)
      _ = (2 : ℝ) ^ 134 := by norm_num
  refine max_le ?_ ?_
  · exact_mod_cast (le_abs_self _).trans h
  · exact_mod_cast (neg_le_abs _).trans h

/-- The `p` of a group whose values are of magnitude at most `2^134` is from 0 to below `2^126`. -/
theorem fold_range {v : Fin 128 → EReal} (h : ∀ k, mag (v k) ≤ (((2 : ℝ) ^ 134 : ℝ) : EReal)) :
    0 ≤ (Finset.univ.fold max ⊥ fun k => mag (v k)) * c448
    ∧ (Finset.univ.fold max ⊥ fun k => mag (v k)) * c448 < (((2 : ℝ) ^ (126 : ℤ) : ℝ) : EReal) := by
  obtain ⟨q, hq0, hq1, hq⟩ := c448_eq
  have h0 : 0 ≤ Finset.univ.fold max ⊥ fun k => mag (v k) :=
    Finset.le_fold_max _ |>.2 (Or.inr ⟨0, Finset.mem_univ _, mag_nonneg _⟩)
  have h1 : (Finset.univ.fold max ⊥ fun k => mag (v k)) ≤ (((2 : ℝ) ^ 134 : ℝ) : EReal) :=
    Finset.fold_max_le _ |>.2 ⟨bot_le, fun k _ => h k⟩
  generalize (Finset.univ.fold max ⊥ fun k => mag (v k)) = a at *
  rw [hq]
  induction a using EReal.rec with
  | bot => exact absurd h0 (by simp)
  | top => exact absurd h1 (not_le.2 (EReal.coe_lt_top _))
  | coe a =>
    have a0 : 0 ≤ a := by exact_mod_cast h0
    have a1 : a ≤ (2 : ℝ) ^ 134 := by exact_mod_cast h1
    rw [← EReal.coe_mul]
    constructor
    · exact_mod_cast mul_nonneg a0 hq0.le
    · rw [EReal.coe_lt_coe_iff]
      calc a * q ≤ (2 : ℝ) ^ 134 * q := mul_le_mul_of_nonneg_right a1 hq0.le
        _ < (2 : ℝ) ^ 134 * (2 : ℝ) ^ (-8 : ℤ) := mul_lt_mul_of_pos_left hq1 (by positivity)
        _ = (2 : ℝ) ^ (126 : ℤ) := by norm_num

/-- The kernel's scales and inverse scales of the row groups are the mathematics', -/
theorem row_scales (hg : Finite g) (r : ℕ) {b : ℕ} (hb : b < 16) :
    kscale (rowMax X g r b) = rscale (rowMax X g r b) ∧ kinv (rowMax X g r b) = rinv (rowMax X g r b) := by
  have h := fold_range (v := fun k : Fin 128 => y X g r (128 * b + k)) fun k => mag_le X hg r (by omega)
  exact ⟨kscale_eq h.1 h.2, kinv_eq h.1 h.2⟩

/-- and those of the column groups. -/
theorem col_scales (hg : Finite g) (b : ℕ) {c : ℕ} (hc : c < 2048) :
    kscale (colMax X g b c) = rscale (colMax X g b c) ∧ kinv (colMax X g b c) = rinv (colMax X g b c) := by
  have h := fold_range (v := fun k : Fin 128 => y X g (128 * b + k) c) fun k => mag_le X hg _ hc
  exact ⟨kscale_eq h.1 h.2, kinv_eq h.1 h.2⟩

end Cert.Formula

end
-- ==== Proof.Tile.lean ====
/-
  What the kernel computes for one tile of 128 rows and 128 columns, read at an index.

  `v0` is the 128 rows whole, `t` the tile's own columns and `w` the tile's weights. The payloads named here are the
  ones the printed kernel computes for its first tile; the other tiles run the same operations (Block.lean). A tile
  at rows `o, …, o + 127` and columns `128 q, …, 128 q + 127` of an array `X` gives the formulas of Formula.lean.
-/
module

public import proofs.«01_k».proof.Proof.Formula
public import proofs.«01_k».proof.Proof.Gen.KernelIdeal.Skeleton

@[expose] public section

set_option maxRecDepth 16384

noncomputable section

namespace Cert.Tile

open Idealize.ShloMosaic Cert.KernelIdeal Cert.KernelIdeal.Gen Cert.Scale Cert.Formula

section Payloads

variable {F : FTy → Type} [FloatOps F]

/-- The tile's row scales, one column of them, and its inverse row scales. -/
def rowScale (v0 : Vec F S128x2048 .bf16) (t : Vec F S128x128 .bf16) (w : Vec F S1x128 .bf16) : FVec F S128x1 .f32 :=
  k0_pay10 (k0_pay6 v0 t w) (k0_pay7 v0 t w) k0_pay8
def rowInv (v0 : Vec F S128x2048 .bf16) (t : Vec F S128x128 .bf16) (w : Vec F S1x128 .bf16) : FVec F S128x1 .f32 :=
  k0_pay11 (k0_pay6 v0 t w) (k0_pay7 v0 t w) k0_pay8

/-- What the tile stores into each of the five results. -/
def rowCodes (v0 : Vec F S128x2048 .bf16) (t : Vec F S128x128 .bf16) (w : Vec F S1x128 .bf16) : FVec F S128x128 .fp8e4m3 :=
  k0_pay15 (k0_pay4 v0 t w) (rowInv v0 t w)
def rowScales (v0 : Vec F S128x2048 .bf16) (t : Vec F S128x128 .bf16) (w : Vec F S1x128 .bf16) : FVec F S1x128 .f32 :=
  k0_pay16 (rowScale v0 t w)
def colCodes (v0 : Vec F S128x2048 .bf16) (t : Vec F S128x128 .bf16) (w : Vec F S1x128 .bf16) : FVec F S128x128 .fp8e4m3 :=
  k0_pay17 (k0_pay4 v0 t w) (k0_pay12 (k0_pay5 v0 t w)) k0_pay14
def colScales (v0 : Vec F S128x2048 .bf16) (t : Vec F S128x128 .bf16) (w : Vec F S1x128 .bf16) : FVec F S1x128 .f32 :=
  k0_pay13 (k0_pay5 v0 t w)
def rsigs (v0 : Vec F S128x2048 .bf16) : FVec F S1x128 .f32 := k0_pay3 v0

end Payloads

variable (X : ℕ → ℕ → EReal) (g : ℕ → EReal) (o q : ℕ)
variable (v0 : Vec Ideal S128x2048 .bf16) (t : Vec Ideal S128x128 .bf16) (w : Vec Ideal S1x128 .bf16)

/-- The three inputs of the tile are its rows, its columns and its weights. -/
structure Reads : Prop where
  rows : ∀ (a : Fin 128) (j : Fin 2048), v0 (ix2 a j) = X (o + a) j
  cols : ∀ a b : Fin 128, t (ix2 a b) = X (o + a) (128 * q + b)
  weights : ∀ b : Fin 128, w (ix2 0 b) = g (128 * q + b)

variable {X g o q v0 t w}

theorem rsig_apply (h : ∀ (a : Fin 128) (j : Fin 2048), v0 (ix2 a j) = X (o + a) j) (a : Fin 128) :
    k0_pay2 v0 (ix2 a 0) = rsig X (o + a) := by
  pointwise [k0_pay2]
  simp only [h]
  rfl

/-- The reciprocal root mean squares, laid along the columns. -/
theorem rsigs_apply (h : ∀ (a : Fin 128) (j : Fin 2048), v0 (ix2 a j) = X (o + a) j) (a : Fin 128) :
    rsigs v0 (ix2 0 a) = rsig X (o + a) := by
  pointwise [rsigs, k0_pay3]
  exact rsig_apply h a

theorem y_apply (h : Reads X g o q v0 t w) (a b : Fin 128) :
    k0_pay4 v0 t w (ix2 a b) = y X g (o + a) (128 * q + b) := by
  pointwise [k0_pay4]
  rw [h.cols, h.weights, rsig_apply h.rows]
  rfl

theorem mag_apply (h : Reads X g o q v0 t w) (a b : Fin 128) :
    k0_pay5 v0 t w (ix2 a b) = mag (y X g (o + a) (128 * q + b)) := by
  pointwise [k0_pay5]
  rw [y_apply h]
  rfl

/-! ## The row group -/

theorem rowMax_apply (h : Reads X g o q v0 t w) (a : Fin 128) :
    k0_pay6 v0 t w (ix2 a 0) = rowMax X g (o + a) q := by
  pointwise [k0_pay6]
  simp only [mag_apply h, bot_word]
  rfl

theorem rowField_apply (a : Fin 128) :
    k0_pay7 v0 t w (ix2 a 0) = field (k0_pay6 v0 t w (ix2 a 0) * c448) := by
  pointwise [k0_pay7]
  rw [bot_word]
  rfl

theorem rowExp_apply (a : Fin 128) :
    k0_pay9 (k0_pay6 v0 t w) (k0_pay7 v0 t w) k0_pay8 (ix2 a 0) = kexp (k0_pay6 v0 t w (ix2 a 0)) := by
  pointwise [k0_pay9, k0_pay8]
  rw [rowField_apply]
  rfl

theorem rowScale_apply (h : Reads X g o q v0 t w) (a : Fin 128) :
    rowScale v0 t w (ix2 a 0) = kscale (rowMax X g (o + a) q) := by
  pointwise [rowScale, k0_pay10]
  rw [rowExp_apply, rowMax_apply h]
  rfl

theorem rowInv_apply (h : Reads X g o q v0 t w) (a : Fin 128) :
    rowInv v0 t w (ix2 a 0) = kinv (rowMax X g (o + a) q) := by
  pointwise [rowInv, k0_pay11]
  rw [rowExp_apply, rowMax_apply h]
  rfl

/-- The tile's row codes, -/
theorem rowCodes_apply (h : Reads X g o q v0 t w) (a b : Fin 128) :
    rowCodes v0 t w (ix2 a b) = code (y X g (o + a) (128 * q + b)) (kinv (rowMax X g (o + a) q)) := by
  pointwise [rowCodes, k0_pay15]
  rw [y_apply h, rowInv_apply h]
  rfl

/-- and its row scales, laid along the columns. -/
theorem rowScales_apply (h : Reads X g o q v0 t w) (a : Fin 128) :
    rowScales v0 t w (ix2 0 a) = kscale (rowMax X g (o + a) q) := by
  pointwise [rowScales, k0_pay16]
  exact rowScale_apply h a

/-! ## The column group: the tile's rows are the group `o / 128` -/

theorem colExp_apply (h : Reads X g (128 * o) q v0 t w) (b : Fin 128) :
    k0_pay12 (k0_pay5 v0 t w) (ix2 0 b) = kexp (colMax X g o (128 * q + b)) := by
  pointwise [k0_pay12]
  simp only [mag_apply h, bot_word]
  rfl

theorem colScales_apply (h : Reads X g (128 * o) q v0 t w) (b : Fin 128) :
    colScales v0 t w (ix2 0 b) = kscale (colMax X g o (128 * q + b)) := by
  pointwise [colScales, k0_pay13]
  rw [colExp_apply h]
  rfl

/-- The tile's column codes, transposed. -/
theorem colCodes_apply (h : Reads X g (128 * o) q v0 t w) (a b : Fin 128) :
    colCodes v0 t w (ix2 b a)
      = code (y X g (128 * o + a) (128 * q + b)) (kinv (colMax X g o (128 * q + b))) := by
  pointwise [colCodes, k0_pay17, k0_pay14]
  rw [colExp_apply h, y_apply h]
  rfl

end Cert.Tile

end
-- ==== Proof.Block.lean ====
/-
  What the kernel leaves in its five blocks at one grid point, at an index.

  A point has 1024 rows, cut in 8 groups, and all 2048 columns, cut in 16 groups. The body stores 128 tiles into each
  of the four quantised results, tile `n` at row group `n / 16` and column group `n % 16`, and one row of reciprocal
  root mean squares per row group. Each tile is the same operations on its own part of the block (`out2_eq` to
  `out6_eq`), so each of the blocks is one formula of Formula.lean at every index.
-/
module

public import proofs.«01_k».proof.Proof.Tile
public import proofs.«01_k».proof.Proof.Gen.KernelIdeal.Frame
public import Idealize.ShloMosaic.Lib.Pipeline.Value
public import Idealize.ShloMosaic.Lib.Pipeline.ValueKit

@[expose] public section

set_option maxRecDepth 16384

noncomputable section

namespace Cert.Block

open Idealize.ShloMosaic Cert.KernelIdeal Cert.KernelIdeal.Gen Cert.Scale Cert.Formula Cert.Tile

/-- `f (n-1), …, f 0`: the stores of a body, the last first. -/
def lastFirst {α : Type} (f : ℕ → α) : ℕ → List α
  | 0 => []
  | n + 1 => f n :: lastFirst f n

theorem mem_lastFirst {α : Type} {f : ℕ → α} {p : α} : ∀ {n : ℕ}, p ∈ lastFirst f n ↔ ∃ k < n, p = f k
  | 0 => by simp [lastFirst]
  | n + 1 => by
    rw [lastFirst, List.mem_cons, mem_lastFirst]
    constructor
    · rintro (h | ⟨k, hk, h⟩)
      · exact ⟨n, by omega, h⟩
      · exact ⟨k, by omega, h⟩
    · rintro ⟨k, hk, h⟩
      rcases Nat.lt_succ_iff_lt_or_eq.1 hk with hk | rfl
      · exact .inr ⟨k, hk, h⟩
      · exact .inl h

/-- A box of a rank 2 shape lies in it when it does along each axis. -/
theorem box {n0 n1 m0 m1 o0 o1 : ℕ} (h0 : o0 + m0 ≤ n0) (h1 : o1 + m1 ≤ n1) :
    ∀ a : Fin 2, (![o0, o1] : Fin 2 → ℕ) a + (![m0, m1] : Fin 2 → ℕ) a ≤ (![n0, n1] : Fin 2 → ℕ) a
  | ⟨0, _⟩ => h0
  | ⟨1, _⟩ => h1

section Pieces

variable {F : FTy → Type} [FloatOps F]
variable (x0 : Vec F S1024x2048 .bf16) (x1 : Vec F S1x2048 .bf16)

/-- Tile `n`'s rows, columns and weights. -/
def rows (i : ℕ) : Vec F S128x2048 .bf16 :=
  View.ld x0 (Rect.unit (s := S1024x2048) ![128 * (i % 8), 0] S128x2048.size (box (by omega) (by omega)))
def cols (n : ℕ) : Vec F S128x128 .bf16 :=
  View.ld x0 (Rect.unit (s := S1024x2048) ![128 * (n / 16 % 8), 128 * (n % 16)] S128x128.size (box (by omega) (by omega)))
def weights (n : ℕ) : Vec F S1x128 .bf16 :=
  View.ld x1 (Rect.unit (s := S1x2048) ![0, 128 * (n % 16)] S1x128.size (box (by omega) (by omega)))

/-- Tile `n`'s stores into the four quantised blocks, and row group `i`'s store into the fifth. -/
def piece2 (n : ℕ) : View.Piece (Elt F) S1024x2048 .fp8e4m3 :=
  ⟨Rect.unit (s := S1024x2048) ![128 * (n / 16 % 8), 128 * (n % 16)] S128x128.size (box (by omega) (by omega)),
    rowCodes (rows x0 (n / 16)) (cols x0 n) (weights x1 n)⟩
def piece3 (n : ℕ) : View.Piece (Elt F) S16x1024 .f32 :=
  ⟨Rect.unit (s := S16x1024) ![(n % 16), 128 * (n / 16 % 8)] S1x128.size (box (by omega) (by omega)),
    rowScales (rows x0 (n / 16)) (cols x0 n) (weights x1 n)⟩
def piece4 (n : ℕ) : View.Piece (Elt F) S2048x1024 .fp8e4m3 :=
  ⟨Rect.unit (s := S2048x1024) ![128 * (n % 16), 128 * (n / 16 % 8)] S128x128.size (box (by omega) (by omega)),
    colCodes (rows x0 (n / 16)) (cols x0 n) (weights x1 n)⟩
def piece5 (n : ℕ) : View.Piece (Elt F) S8x2048 .f32 :=
  ⟨Rect.unit (s := S8x2048) ![(n / 16 % 8), 128 * (n % 16)] S1x128.size (box (by omega) (by omega)),
    colScales (rows x0 (n / 16)) (cols x0 n) (weights x1 n)⟩
def piece6 (i : ℕ) : View.Piece (Elt F) S8x128 .f32 :=
  ⟨Rect.unit (s := S8x128) ![i % 8, 0] S1x128.size (box (by omega) (by omega)), rsigs (rows x0 i)⟩

/-! Each block is its tiles' stores: by unfolding the printed body's payloads. -/

theorem out2_eq : out0_2 x0 x1 = View.canon (lastFirst (piece2 x0 x1) 128) := rfl
theorem out3_eq : out0_3 x0 x1 = View.canon (lastFirst (piece3 x0 x1) 128) := rfl
theorem out4_eq : out0_4 x0 x1 = View.canon (lastFirst (piece4 x0 x1) 128) := rfl
theorem out5_eq : out0_5 x0 x1 = View.canon (lastFirst (piece5 x0 x1) 128) := rfl
theorem out6_eq : out0_6 x0 x1 = View.canon (lastFirst (piece6 x0) 8) := rfl

end Pieces

/-! ## The blocks at an index -/

variable {X : ℕ → ℕ → EReal} {g : ℕ → EReal} {x0 : Vec Ideal S1024x2048 .bf16} {x1 : Vec Ideal S1x2048 .bf16}

/-- The block's rows are rows of `X`, and its weights are `g`. -/
structure Holds (X : ℕ → ℕ → EReal) (g : ℕ → EReal) (x0 : Vec Ideal S1024x2048 .bf16) (x1 : Vec Ideal S1x2048 .bf16) :
    Prop where
  acts : ∀ (r : Fin 1024) (c : Fin 2048), x0 (ix2 r c) = X r c
  wts : ∀ c : Fin 2048, x1 (ix2 0 c) = g c

theorem rows_apply (h : Holds X g x0 x1) (i : ℕ) (a : Fin 128) (j : Fin 2048) :
    rows x0 i (ix2 a j) = X (128 * (i % 8) + a) j := by
  have := h.acts ⟨128 * (i % 8) + a, by omega⟩ j
  rw [← this]
  refine View.ld_unit_apply_of _ _ _ _ _ _ fun ax => ?_
  match ax with
  | ⟨0, _⟩ => rfl
  | ⟨1, _⟩ => exact (Nat.zero_add _).symm

theorem reads (h : Holds X g x0 x1) (n : ℕ) :
    Reads X g (128 * (n / 16 % 8)) ((n % 16)) (rows x0 (n / 16)) (cols x0 n) (weights x1 n) where
  rows := rows_apply h (n / 16)
  cols a b := by
    have := h.acts ⟨128 * (n / 16 % 8) + a, by omega⟩ ⟨128 * (n % 16) + b, by omega⟩
    rw [← this]
    refine View.ld_unit_apply_of _ _ _ _ _ _ fun ax => ?_
    match ax with
    | ⟨0, _⟩ => rfl
    | ⟨1, _⟩ => rfl
  weights b := by
    have := h.wts ⟨128 * (n % 16) + b, by omega⟩
    rw [← this]
    refine View.ld_unit_apply_of _ _ _ _ _ _ fun ax => ?_
    match ax with
    | ⟨0, _⟩ => rfl
    | ⟨1, _⟩ => rfl

/-- Boxes of one size stored by a family, whose payloads agree with one function of the coordinates and which cover
    every index, leave that function. -/
theorem canon_boxes {n0 n1 m0 m1 N : ℕ} {e : EltTy} (off : ℕ → Fin 2 → ℕ)
    (inb : ∀ n a, off n a + (![m0, m1] : Fin 2 → ℕ) a ≤ (![n0, n1] : Fin 2 → ℕ) a)
    (pay : ℕ → (⟨2, ![m0, m1]⟩ : Shape).Idx → Elt Ideal e) (G : ℕ → ℕ → Elt Ideal e)
    (hpay : ∀ n, ∀ (a : Fin m0) (b : Fin m1), pay n (ix2 a b) = G (off n 0 + a) (off n 1 + b))
    (y : (⟨2, ![n0, n1]⟩ : Shape).Idx)
    (hcov : ∃ n < N, (off n 0 ≤ (y 0 : ℕ) ∧ (y 0 : ℕ) < off n 0 + m0) ∧ off n 1 ≤ (y 1 : ℕ) ∧ (y 1 : ℕ) < off n 1 + m1) :
    View.canon (lastFirst (fun n => (⟨Rect.unit (s := ⟨2, ![n0, n1]⟩) (off n) ![m0, m1] (inb n), pay n⟩ :
      View.Piece (Elt Ideal) ⟨2, ![n0, n1]⟩ e)) N) y = G (y 0) (y 1) := by
  refine View.canon_apply_of_pieces (fun y => G (y 0) (y 1)) _ (fun p hp x => ?_) y ?_
  · obtain ⟨n, -, rfl⟩ := mem_lastFirst.1 hp
    have h0 : ∀ a, ((Rect.unit (s := ⟨2, ![n0, n1]⟩) (off n) ![m0, m1] (inb n)).emb x a : ℕ) = off n a + x a :=
      fun a => Rect.idx_unit_val _ _ _ _ a
    have hx := hpay n (x 0) (x 1)
    rw [ix2_eta] at hx
    dsimp only
    rw [hx]
    congr 1
    · exact (h0 0).symm
    · exact (h0 1).symm
  · obtain ⟨n, hn, hy⟩ := hcov
    refine ⟨_, mem_lastFirst.2 ⟨n, hn, rfl⟩, ?_⟩
    rw [Rect.mem_set_unit]
    intro a
    match a with
    | ⟨0, _⟩ => exact hy.1
    | ⟨1, _⟩ => exact hy.2

theorem out2_apply (h : Holds X g x0 x1) (i : S1024x2048.Idx) :
    out0_2 x0 x1 i = code (y X g (i 0) (i 1)) (kinv (rowMax X g (i 0) ((i 1 : ℕ) / 128))) := by
  rw [out2_eq]
  refine canon_boxes (e := .fp8e4m3) (fun n => ![128 * (n / 16 % 8), 128 * (n % 16)]) _ _
    (fun r c => code (y X g r c) (kinv (rowMax X g r (c / 128)))) (fun n a b => ?_) i
    ⟨16 * ((i 0 : ℕ) / 128) + (i 1 : ℕ) / 128, ?_⟩
  · refine (rowCodes_apply (reads h n) a b).trans ?_
    have : (128 * (n % 16) + b) / 128 = (n % 16) := by omega
    show _ = code (y X g (128 * (n / 16 % 8) + a) (128 * (n % 16) + b)) (kinv (rowMax X g (128 * (n / 16 % 8) + a) ((128 * (n % 16) + b) / 128)))
    rw [this]
  · have h0 : (i 0 : ℕ) < 1024 := (i 0).isLt
    have h1 : (i 1 : ℕ) < 2048 := (i 1).isLt
    simp only [Matrix.cons_val_zero, Matrix.cons_val_one]
    omega

theorem out3_apply (h : Holds X g x0 x1) (i : S16x1024.Idx) :
    out0_3 x0 x1 i = kscale (rowMax X g (i 1) (i 0)) := by
  rw [out3_eq]
  refine canon_boxes (e := .f32) (fun n => ![(n % 16), 128 * (n / 16 % 8)]) _ _
    (fun b r => kscale (rowMax X g r b)) (fun n a b => ?_) i ⟨16 * ((i 1 : ℕ) / 128) + (i 0 : ℕ), ?_⟩
  · obtain rfl : a = 0 := Subsingleton.elim _ _
    exact rowScales_apply (reads h n) b
  · have h0 : (i 0 : ℕ) < 16 := (i 0).isLt
    have h1 : (i 1 : ℕ) < 1024 := (i 1).isLt
    simp only [Matrix.cons_val_zero, Matrix.cons_val_one]
    omega

theorem out4_apply (h : Holds X g x0 x1) (i : S2048x1024.Idx) :
    out0_4 x0 x1 i = code (y X g (i 1) (i 0)) (kinv (colMax X g ((i 1 : ℕ) / 128) (i 0))) := by
  rw [out4_eq]
  refine canon_boxes (e := .fp8e4m3) (fun n => ![128 * (n % 16), 128 * (n / 16 % 8)]) _ _
    (fun c r => code (y X g r c) (kinv (colMax X g (r / 128) c))) (fun n a b => ?_) i
    ⟨16 * ((i 1 : ℕ) / 128) + (i 0 : ℕ) / 128, ?_⟩
  · refine (colCodes_apply (reads h n) b a).trans ?_
    have : (128 * (n / 16 % 8) + b) / 128 = (n / 16 % 8) := by omega
    show _ = code (y X g (128 * (n / 16 % 8) + b) (128 * (n % 16) + a)) (kinv (colMax X g ((128 * (n / 16 % 8) + b) / 128) (128 * (n % 16) + a)))
    rw [this]
  · have h0 : (i 0 : ℕ) < 2048 := (i 0).isLt
    have h1 : (i 1 : ℕ) < 1024 := (i 1).isLt
    simp only [Matrix.cons_val_zero, Matrix.cons_val_one]
    omega

theorem out5_apply (h : Holds X g x0 x1) (i : S8x2048.Idx) :
    out0_5 x0 x1 i = kscale (colMax X g (i 0) (i 1)) := by
  rw [out5_eq]
  refine canon_boxes (e := .f32) (fun n => ![(n / 16 % 8), 128 * (n % 16)]) _ _
    (fun b c => kscale (colMax X g b c)) (fun n a b => ?_) i ⟨16 * (i 0 : ℕ) + (i 1 : ℕ) / 128, ?_⟩
  · obtain rfl : a = 0 := Subsingleton.elim _ _
    exact colScales_apply (reads h n) b
  · have h0 : (i 0 : ℕ) < 8 := (i 0).isLt
    have h1 : (i 1 : ℕ) < 2048 := (i 1).isLt
    simp only [Matrix.cons_val_zero, Matrix.cons_val_one]
    omega

theorem out6_apply (h : Holds X g x0 x1) (i : S8x128.Idx) :
    out0_6 x0 x1 i = rsig X (128 * (i 0 : ℕ) + (i 1 : ℕ)) := by
  rw [out6_eq]
  refine canon_boxes (e := .f32) (fun n => ![n % 8, 0]) _ _
    (fun b c => rsig X (128 * b + c)) (fun n a b => ?_) i ⟨(i 0 : ℕ), ?_⟩
  · obtain rfl : a = 0 := Subsingleton.elim _ _
    refine (rsigs_apply (rows_apply h n) b).trans ?_
    show _ = rsig X (128 * (n % 8 + 0) + (0 + (b : ℕ)))
    rw [Nat.add_zero, Nat.zero_add]
  · have h0 : (i 0 : ℕ) < 8 := (i 0).isLt
    have h1 : (i 1 : ℕ) < 128 := (i 1).isLt
    simp only [Matrix.cons_val_zero, Matrix.cons_val_one]
    omega

end Cert.Block

end
-- ==== Proof.Results.lean ====
/-
  The five result arrays as functions of the two argument arrays, in two spellings of the group scales.

  `act x r c` is the activation at row `r` of the 57344 rows of 2048, and `wt w c` the weight of column `c`. The arrays
  are given for any spelling `s` of the scale of a group and `i` of its inverse: the kernel's are `kscale` and `kinv`,
  the reference's `rscale` and `rinv` (Scale.lean).
-/
module

public import proofs.«01_k».proof.Proof.Formula
public import Idealize.ShloMosaic.Lib.Pointwise

@[expose] public section

set_option maxRecDepth 16384

noncomputable section

namespace Cert.Results

open Idealize.ShloMosaic Cert.Scale Cert.Formula

/-- Row `r` and column `c` of the activations, the two leading axes taken as one. -/
def act (x : (⟨3, ![14, 4096, 2048]⟩ : Shape).Idx → EReal) (r c : ℕ) : EReal :=
  if h : r < 57344 ∧ c < 2048 then
    x (ix3 ⟨r / 4096, by omega⟩ ⟨r % 4096, Nat.mod_lt _ (by norm_num)⟩ ⟨c, h.2⟩)
  else 0

/-- The weight of column `c`. -/
def wt (w : (⟨1, ![2048]⟩ : Shape).Idx → EReal) (c : ℕ) : EReal := if h : c < 2048 then w (ix1 ⟨c, h⟩) else 0

/-- The rows in order are the leading axes reshaped to one. -/
theorem act_eq (x : (⟨3, ![14, 4096, 2048]⟩ : Shape).Idx → EReal)
    (h : (⟨3, ![14, 4096, 2048]⟩ : Shape).ShapeCasts ⟨2, ![57344, 2048]⟩) (r : Fin 57344) (k : Fin 2048) :
    shapeCast ⟨2, ![57344, 2048]⟩ x h (ix2 r k) = act x r k := by
  rw [act, dif_pos ⟨r.2, k.2⟩]
  pointwise

theorem wt_eq (w : (⟨1, ![2048]⟩ : Shape).Idx → EReal) (k : Fin 2048) : w (ix1 k) = wt w k := by
  rw [wt, dif_pos k.2]

variable (s i : EReal → EReal) (X : ℕ → ℕ → EReal) (g : ℕ → EReal)

/-- Result 1: the codes of the groups of 128 columns. -/
def rowCodes : (⟨2, ![57344, 2048]⟩ : Shape).Idx → EReal :=
  fun j => code (y X g (j 0) (j 1)) (i (rowMax X g (j 0) ((j 1 : ℕ) / 128)))

/-- Result 2: the scales of the groups of 128 columns. -/
def rowScales : (⟨2, ![57344, 16]⟩ : Shape).Idx → EReal := fun j => s (rowMax X g (j 0) (j 1))

/-- Result 3: the codes of the groups of 128 rows, transposed. -/
def colCodes : (⟨2, ![2048, 57344]⟩ : Shape).Idx → EReal :=
  fun j => code (y X g (j 1) (j 0)) (i (colMax X g ((j 1 : ℕ) / 128) (j 0)))

/-- Result 4: the scales of the groups of 128 rows, transposed. -/
def colScales : (⟨2, ![2048, 448]⟩ : Shape).Idx → EReal := fun j => s (colMax X g (j 1) (j 0))

/-- Result 5: the reciprocal root mean squares of the rows. -/
def rsigs : (⟨1, ![57344]⟩ : Shape).Idx → EReal := fun j => rsig X (j 0)

/-! ## The two spellings agree on finite weights -/

variable {g}

theorem rowCodes_eq (hg : Finite g) : rowCodes kinv X g = rowCodes rinv X g := by
  funext j
  have hj : (j 1 : ℕ) < 2048 := (j 1).isLt
  rw [rowCodes, rowCodes, (row_scales X hg (j 0) (by omega)).2]

theorem rowScales_eq (hg : Finite g) : rowScales kscale X g = rowScales rscale X g := by
  funext j
  rw [rowScales, rowScales, (row_scales X hg (j 0) (j 1).isLt).1]

theorem colCodes_eq (hg : Finite g) : colCodes kinv X g = colCodes rinv X g := by
  funext j
  rw [colCodes, colCodes, (col_scales X hg _ (j 0).isLt).2]

theorem colScales_eq (hg : Finite g) : colScales kscale X g = colScales rscale X g := by
  funext j
  rw [colScales, colScales, (col_scales X hg _ (j 0).isLt).1]

end Cert.Results

end
-- ==== Proof.KernelValue.lean ====
/-
  The kernel's five results after a run, as the arrays of Results.lean.

  Grid point `t` has rows `1024 t` to `1024 t + 1023` of the activations and every column, and writes the blocks of
  Block.lean at its own place of each result; the blocks of the 56 points cover each result. After the grid two results
  are transposed and one is reshaped from 448 rows of 128 to one axis.
-/
module

public import proofs.«01_k».proof.Proof.Block
public import proofs.«01_k».proof.Proof.Results
public import Idealize.ShloMosaic.Lib.Claim

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen Cert.Scale Cert.Formula Cert.Block Cert.Results

variable (m : (ℓ : Loc nD τ sig) → Buf (Elt Ideal) ℓ) (c : Dev nD)

/-- The activations and the weights as launched. -/
abbrev X : ℕ → ℕ → EReal := act (m ((c : Thread nD τ).loc main_arg0))
abbrev W : ℕ → EReal := wt (m ((c : Thread nD τ).loc main_arg1))

/-- A group of rows counted from row `1024 t` is a group of rows of the whole array. -/
theorem colMax_shift (X : ℕ → ℕ → EReal) (g : ℕ → EReal) (t b k : ℕ) :
    colMax (fun r j => X (1024 * t + r) j) g b k = colMax X g (8 * t + b) k := by
  refine Finset.fold_congr fun l _ => ?_
  show mag (y X g (1024 * t + (128 * b + l)) k) = _
  rw [show 1024 * t + (128 * b + (l : ℕ)) = 128 * (8 * t + b) + l by omega]

/-- Where each window's block lies at grid point `t`. -/
theorem idx : ∀ t : Fin cfg0.N, win0_0.index t = ![t.val, 0] ∧ win0_1.index t = ![0, 0] ∧ win0_2.index t = ![t.val, 0]
    ∧ win0_3.index t = ![0, t.val] ∧ win0_4.index t = ![0, t.val] ∧ win0_5.index t = ![t.val, 0]
    ∧ win0_6.index t = ![t.val, 0] :=
  (by decide +kernel : ∀ t : Fin grid0.N, _)

theorem entry0 : V m c main_v0
    = shapeCast S57344x2048 (m ((c : Thread nD τ).loc main_arg0)) shapeCasts_S14x4096x2048_S57344x2048 := by
  simp only [V, V0, hostOps0, List.flatten_cons, List.flatten_nil, List.append_nil]
  rw [StableHlo.after_cons, StableHlo.after_cons, StableHlo.after_nil, StableHlo.reshape_result_ne, StableHlo.reshape_result]
  · rfl
  · decide

theorem entry1 : V m c main_v1 = shapeCast S1x2048 (m ((c : Thread nD τ).loc main_arg1)) shapeCasts_S2048_S1x2048 := by
  simp only [V, V0, hostOps0, List.flatten_cons, List.flatten_nil, List.append_nil]
  rw [StableHlo.after_cons, StableHlo.after_cons, StableHlo.after_nil, StableHlo.reshape_result, StableHlo.reshape_result_ne]
  · rfl
  · decide

/-- The activations as the grid finds them: the rows of 2048, in order. -/
theorem entry_acts (r : Fin 57344) (k : Fin 2048) : V m c main_v0 (ix2 r k) = X m c r k := by
  rw [entry0]
  exact act_eq _ _ r k

/-- The weights as the grid finds them: one row. -/
theorem entry_wts (k : Fin 2048) : V m c main_v1 (ix2 0 k) = W m c k := by
  rw [entry1]
  pointwise
  exact wt_eq _ k

theorem points (t : Fin cfg0.N) : t.val < 56 := t.isLt

/-- What point `t` is given. -/
theorem holds (t : Fin cfg0.N) :
    Holds (fun r k => X m c (1024 * t.val + r) k) (W m c) (iblk m c 0 t) (iblk m c 1 t) where
  acts r k := by
    have ht := points t
    refine Eq.trans ?_ (entry_acts m c ⟨1024 * t.val + r, by omega⟩ k)
    blk_point [iblk, idx t]
  wts k := by
    refine Eq.trans ?_ (entry_wts m c k)
    blk_point [iblk, idx t]

/-! ## The arrays the grid leaves

Windows 3, 5 and 6 hold results 2, 4 and 5 in the layouts the grid writes them in. -/

def rowScalesT : S16x57344.Idx → EReal := fun j => kscale (rowMax (X m c) (W m c) (j 1) (j 0))
def colScalesT : S448x2048.Idx → EReal := fun j => kscale (colMax (X m c) (W m c) (j 0) (j 1))
def rsigs2 : S448x128.Idx → EReal := fun j => rsig (X m c) (128 * (j 0 : ℕ) + (j 1 : ℕ))

theorem array2 : (dats m 0 c).arrAt 2 (cfgs 0).N = rowCodes kinv (X m c) (W m c) := by
  refine (dats m 0 c).arrAt_eq_of_covers 2 _ (by decide +kernel) fun t hf y => ?_
  blk_simp
  rw [after0_2, out2_apply (holds m c t)]
  have e0 : ((win0_2.blk t).view.emb y 0 : ℕ) = 1024 * t.val + (y 0 : ℕ) := by blk_simp [idx t]; omega
  have e1 : ((win0_2.blk t).view.emb y 1 : ℕ) = (y 1 : ℕ) := by blk_simp [idx t]
  simp only [rowCodes, e0, e1]
  rfl

theorem array3 : (dats m 0 c).arrAt 3 (cfgs 0).N = rowScalesT m c := by
  refine (dats m 0 c).arrAt_eq_of_covers 3 _ (by decide +kernel) fun t hf y => ?_
  blk_simp
  rw [after0_3, out3_apply (holds m c t)]
  have e0 : ((win0_3.blk t).view.emb y 0 : ℕ) = (y 0 : ℕ) := by blk_simp [idx t]
  have e1 : ((win0_3.blk t).view.emb y 1 : ℕ) = 1024 * t.val + (y 1 : ℕ) := by blk_simp [idx t]; omega
  simp only [rowScalesT, e0, e1]
  rfl

theorem array4 : (dats m 0 c).arrAt 4 (cfgs 0).N = colCodes kinv (X m c) (W m c) := by
  refine (dats m 0 c).arrAt_eq_of_covers 4 _ (by decide +kernel) fun t hf y => ?_
  blk_simp
  rw [after0_4, out4_apply (holds m c t), colMax_shift]
  have e0 : ((win0_4.blk t).view.emb y 0 : ℕ) = (y 0 : ℕ) := by blk_simp [idx t]
  have e1 : ((win0_4.blk t).view.emb y 1 : ℕ) = 1024 * t.val + (y 1 : ℕ) := by blk_simp [idx t]; omega
  simp only [colCodes, e0, e1]
  rw [show (1024 * t.val + (y 1 : ℕ)) / 128 = 8 * t.val + (y 1 : ℕ) / 128 by omega]
  rfl

theorem array5 : (dats m 0 c).arrAt 5 (cfgs 0).N = colScalesT m c := by
  refine (dats m 0 c).arrAt_eq_of_covers 5 _ (by decide +kernel) fun t hf y => ?_
  blk_simp
  rw [after0_5, out5_apply (holds m c t), colMax_shift]
  have e0 : ((win0_5.blk t).view.emb y 0 : ℕ) = 8 * t.val + (y 0 : ℕ) := by blk_simp [idx t]; omega
  have e1 : ((win0_5.blk t).view.emb y 1 : ℕ) = (y 1 : ℕ) := by blk_simp [idx t]
  simp only [colScalesT, e0, e1]

theorem array6 : (dats m 0 c).arrAt 6 (cfgs 0).N = rsigs2 m c := by
  refine (dats m 0 c).arrAt_eq_of_covers 6 _ (by decide +kernel) fun t hf y => ?_
  blk_simp
  rw [after0_6, out6_apply (holds m c t)]
  have e0 : ((win0_6.blk t).view.emb y 0 : ℕ) = 8 * t.val + (y 0 : ℕ) := by blk_simp [idx t]; omega
  have e1 : ((win0_6.blk t).view.emb y 1 : ℕ) = (y 1 : ℕ) := by blk_simp [idx t]
  simp only [rsigs2, e0, e1]
  rw [show 128 * (8 * t.val + (y 0 : ℕ)) + (y 1 : ℕ) = 1024 * t.val + (128 * (y 0 : ℕ) + (y 1 : ℕ)) by omega]
  rfl

/-! ## The arrays after the grid -/

/-- Buffer `b` after the operations behind the grid. -/
abbrev T (b : Ref sig .tc) : Buf (Elt Ideal) ((c : Thread nD τ).loc b) :=
  Pipeline.afterTail₀ cfgs (dats m) 0 (V0 m) [hostOps1] c b

theorem arr_inj : Function.Injective (Pipeline.arrRef spec0) := by decide

theorem tail3 : T m c main_v3 = rowScales kscale (X m c) (W m c) := by
  have e : T m c main_v3
      = transpose S57344x16 [1, 0] ((dats m 0 c).arrAt 3 (cfgs 0).N) transposes_S16x57344_S57344x16_1_0 := by
    simp only [T, Pipeline.afterTail₀, hostOps1, List.flatten_cons, List.flatten_nil, List.append_nil]
    rw [StableHlo.after_cons, StableHlo.after_cons, StableHlo.after_cons, StableHlo.after_nil,
      StableHlo.reshape_result_ne, StableHlo.unary_result_ne, StableHlo.unary_result]
    · exact congrArg (fun A => transpose S57344x16 [1, 0] A transposes_S16x57344_S57344x16_1_0)
        (Pipeline.withArrays_arr spec0 arr_inj c (V0 m c) _ 3)
    · decide
    · decide
  rw [e, array3]
  funext j
  pointwise [rowScales, rowScalesT]

theorem tail4 : T m c main_v4 = colScales kscale (X m c) (W m c) := by
  have e : T m c main_v4
      = transpose S2048x448 [1, 0] ((dats m 0 c).arrAt 5 (cfgs 0).N) transposes_S448x2048_S2048x448_1_0 := by
    simp only [T, Pipeline.afterTail₀, hostOps1, List.flatten_cons, List.flatten_nil, List.append_nil]
    rw [StableHlo.after_cons, StableHlo.after_cons, StableHlo.after_cons, StableHlo.after_nil,
      StableHlo.reshape_result_ne, StableHlo.unary_result, StableHlo.unary_result_ne]
    · exact congrArg (fun A => transpose S2048x448 [1, 0] A transposes_S448x2048_S2048x448_1_0)
        (Pipeline.withArrays_arr spec0 arr_inj c (V0 m c) _ 5)
    · decide
    · decide
  rw [e, array5]
  funext j
  pointwise [colScales, colScalesT]

theorem tail5 : T m c main_v5 = rsigs (X m c) := by
  have e : T m c main_v5 = shapeCast S57344 ((dats m 0 c).arrAt 6 (cfgs 0).N) shapeCasts_S448x128_S57344 := by
    simp only [T, Pipeline.afterTail₀, hostOps1, List.flatten_cons, List.flatten_nil, List.append_nil]
    rw [StableHlo.after_cons, StableHlo.after_cons, StableHlo.after_cons, StableHlo.after_nil,
      StableHlo.reshape_result, StableHlo.unary_result_ne, StableHlo.unary_result_ne]
    · exact congrArg (fun A => shapeCast S57344 A shapeCasts_S448x128_S57344)
        (Pipeline.withArrays_arr spec0 arr_inj c (V0 m c) _ 6)
    · decide
    · decide
  rw [e, array6]
  funext j
  rw [eq_ix1 j]
  pointwise [rsigs, rsigs2]
  rw [show 128 * ((j 0 : ℕ) / 128) + (j 0 : ℕ) % 128 = j 0 by omega]

/-- The kernel runs, ends with the five arrays of Results.lean in the kernel's spelling of the scales, and leaves its
    arguments as they were. -/
theorem run (ρ : Dev nD → PrngReg) :
    θ_run defs (onTc (τ := τ) (main (F := Ideal))) ⟨m, fun _ => 0, ρ⟩ fun r => ∀ c : Dev nD,
      r.2.mem ((c : Thread nD τ).loc main_v2_0) = rowCodes kinv (X m c) (W m c)
      ∧ r.2.mem ((c : Thread nD τ).loc main_v3) = rowScales kscale (X m c) (W m c)
      ∧ r.2.mem ((c : Thread nD τ).loc main_v2_2) = colCodes kinv (X m c) (W m c)
      ∧ r.2.mem ((c : Thread nD τ).loc main_v4) = colScales kscale (X m c) (W m c)
      ∧ r.2.mem ((c : Thread nD τ).loc main_v5) = rsigs (X m c)
      ∧ r.2.mem ((c : Thread nD τ).loc main_arg0) = m ((c : Thread nD τ).loc main_arg0)
      ∧ r.2.mem ((c : Thread nD τ).loc main_arg1) = m ((c : Thread nD τ).loc main_arg1) :=
  θ_run_mono (Gen.run_main m ρ) fun _ h c =>
    ⟨(h.out_eq c 2).trans (array2 m c),
      (h.rest_eq c main_v3 (Pipeline.mem_restRefs_of _ (by decide) (by decide))).trans (tail3 m c),
      (h.out_eq c 4).trans (array4 m c),
      (h.rest_eq c main_v4 (Pipeline.mem_restRefs_of _ (by decide) (by decide))).trans (tail4 m c),
      (h.rest_eq c main_v5 (Pipeline.mem_restRefs_of _ (by decide) (by decide))).trans (tail5 m c),
      (h.rest_eq c main_arg0 (Pipeline.mem_restRefs_of _ (by decide) (by decide))).trans (W_main_arg0 m (dats m) c),
      (h.rest_eq c main_arg1 (Pipeline.mem_restRefs_of _ (by decide) (by decide))).trans (W_main_arg1 m (dats m) c)⟩

end Cert.KernelValue

end
-- ==== Proof.ReferenceBody.lean ====
/-
  What the reference computes from its two arguments, at an index.

  The reference takes the whole arrays: the groups are a third axis of 128. Each step is read at an index and named by
  the formula of Formula.lean and Scale.lean it is.
-/
module

public import proofs.«01_k».proof.Proof.Results
public import proofs.«01_k».proof.Proof.Gen.ReferenceIdeal.Skeleton

@[expose] public section

set_option maxRecDepth 16384

noncomputable section

namespace Cert.ReferenceBody

open Idealize.ShloMosaic Cert.ReferenceIdeal Cert.ReferenceIdeal.Gen Cert.Scale Cert.Formula

variable {X : ℕ → ℕ → EReal} {g : ℕ → EReal} {v0 : Vec Ideal S57344x2048 .bf16} {w : Vec Ideal S2048 .bf16}

/-- The two arguments at an index. -/
structure Reads (X : ℕ → ℕ → EReal) (g : ℕ → EReal) (v0 : Vec Ideal S57344x2048 .bf16) (w : Vec Ideal S2048 .bf16) :
    Prop where
  acts : ∀ (r : Fin 57344) (c : Fin 2048), v0 (ix2 r c) = X r c
  wts : ∀ c : Fin 2048, w (ix1 c) = g c

/-- The word of plus infinity, from which each minimum starts. -/
theorem top_word : Ideal.ofBits .f32 0x7F800000#32 = ⊤ := power_top

/-- The reciprocal root mean squares, -/
theorem rsig_apply (h : Reads X g v0 w) (r : Fin 57344) : k0_pay3 v0 (ix1 r) = rsig X r := by
  pointwise [k0_pay3, k0_pay2]
  simp only [h.acts, mean_eq]
  rfl

/-- and the normalised and weighted activations. -/
theorem y_apply (h : Reads X g v0 w) (r : Fin 57344) (c : Fin 2048) : k0_pay4 v0 w (ix2 r c) = y X g r c := by
  pointwise [k0_pay4, k0_pay2]
  rw [h.acts, h.wts, rsig_apply h]
  rfl

/-- The integers `-126, …, 127` at an index. -/
theorem cand_apply (k : Fin 254) :
    (sitofp .f32 (addi (broadcast S254 4294967170#32)
      (shapeCast S254 (iota .tc S1x254 32 [1] iota_S1x254_d1_w32) shapeCasts_S1x254_S254)) : FVec Ideal S254 .f32) (ix1 k)
      = cand k := by
  pointwise
  rfl

/-! ## The groups of 128 columns -/

/-- The activations in groups. -/
theorem rowGroup_apply (h : Reads X g v0 w) (r : Fin 57344) (b : Fin 16) (k : Fin 128) :
    k0_pay5 v0 w (ix3 r b k) = y X g r (128 * b + k) := by
  pointwise [k0_pay5]
  rw [y_apply h]
  show y X g r (b * 128 + k) = _
  rw [Nat.mul_comm]

/-- The largest magnitude of a group, of any array of groups. -/
theorem rowMax_apply {u : FVec Ideal S57344x16x128 .f32} {r : Fin 57344} {b : Fin 16}
    (h : ∀ k : Fin 128, u (ix3 r b k) = y X g r (128 * b + k)) :
    multiReduction .maximumf [2] S57344x16 (absf u) 0xFF800000#32 reduces_S57344x16x128_S57344x16 (.inl rfl) rfl (ix2 r b)
      = rowMax X g r b := by
  pointwise
  simp only [h, bot_word]
  rfl

/-- The exponents' sequence of operations, of any largest magnitudes and candidates. -/
theorem rowExp_of {m : FVec Ideal S57344x16 .f32} {cs : FVec Ideal S254 .f32} {a : EReal} {r : Fin 57344} {b : Fin 16}
    (hm : m (ix2 r b) = a) (hc : ∀ k : Fin 254, cs (ix1 k) = cand k) :
    select (cmpf .oeq m (broadcast S57344x16 (Scalar.ofBits .f32 0x00000000#32)))
      (broadcast S57344x16 (Scalar.ofBits .f32 0x00000000#32))
      (multiReduction .minimumf [2] S57344x16
        (select
          (cmpf .olt
            (broadcastTo S57344x16x254
              (shapeCast S57344x16x1 (mulf m (broadcast S57344x16 (Scalar.ofBits .f32 0x3B124925#32)))
                shapeCasts_S57344x16_S57344x16x1) broadcasts_S57344x16x1_S57344x16x254)
            (broadcastTo S57344x16x254 (shapeCast S1x1x254 (exp2 cs) shapeCasts_S254_S1x1x254)
              broadcasts_S1x1x254_S57344x16x254))
          (broadcastTo S57344x16x254 (shapeCast S1x1x254 cs shapeCasts_S254_S1x1x254) broadcasts_S1x1x254_S57344x16x254)
          (broadcast S57344x16x254 (Scalar.ofBits .f32 0x43000000#32)))
        0x7F800000#32 reduces_S57344x16x254_S57344x16 (.inl rfl) rfl) (ix2 r b) = rexp a := by
  unfold rexp
  generalize hz : (if a = 0 then (0 : EReal) else _) = z
  pointwise
  simp only [hm, hc, top_word]
  exact hz

theorem rowExp_apply (h : Reads X g v0 w) (r : Fin 57344) (b : Fin 16) :
    k0_pay6 v0 w (ix2 r b) = rexp (rowMax X g r b) := by
  unfold k0_pay6
  exact rowExp_of (rowMax_apply (rowGroup_apply h r b)) cand_apply

/-- A power of two of an array is taken at each index. -/
theorem exp2_at {s : Shape} (x : FVec Ideal s .f32) (i : s.Idx) : exp2 x i = Ideal.exp2 (x i) := rfl

theorem rowScales_apply (h : Reads X g v0 w) (r : Fin 57344) (b : Fin 16) :
    k0_pay7 v0 w (ix2 r b) = rscale (rowMax X g r b) := by
  unfold k0_pay7 rscale
  rw [exp2_at, rowExp_apply h]

/-- The codes' sequence of operations, of any groups and exponents. -/
theorem rowCodes_of {u : FVec Ideal S57344x16x128 .f32} {e : FVec Ideal S57344x16 .f32} {r : Fin 57344} {c : Fin 2048} :
    k0_pay9 u (subf (broadcast S57344x16 (Scalar.ofBits .f32 0x00000000#32)) e) (ix2 r c)
      = code (u (ix3 r ⟨c / 128, by omega⟩ ⟨c % 128, by omega⟩)) (Ideal.exp2 (0 - e (ix2 r ⟨c / 128, by omega⟩))) := by
  pointwise [k0_pay9]
  rfl

theorem rowCodes_apply (h : Reads X g v0 w) (r : Fin 57344) (c : Fin 2048) :
    k0_pay9 (k0_pay5 v0 w) (k0_pay8 v0 w) (ix2 r c) = code (y X g r c) (rinv (rowMax X g r (c / 128))) := by
  unfold k0_pay8 rinv
  rw [rowCodes_of, rowGroup_apply h, rowExp_apply h]
  dsimp only
  rw [Nat.div_add_mod]

/-! ## The groups of 128 rows -/

/-- The transposed activations in groups. -/
theorem colGroup_apply (h : Reads X g v0 w) (c : Fin 2048) (b : Fin 448) (k : Fin 128) :
    k0_pay10 (k0_pay4 v0 w) (ix3 c b k) = y X g (128 * b + k) c := by
  pointwise [k0_pay10]
  rw [y_apply h]
  show y X g (b * 128 + k) c = _
  rw [Nat.mul_comm]

/-- The largest magnitude of a group, of any array of groups. -/
theorem colMax_apply {u : FVec Ideal S2048x448x128 .f32} {c : Fin 2048} {b : Fin 448}
    (h : ∀ k : Fin 128, u (ix3 c b k) = y X g (128 * b + k) c) :
    multiReduction .maximumf [2] S2048x448 (absf u) 0xFF800000#32 reduces_S2048x448x128_S2048x448 (.inl rfl) rfl (ix2 c b)
      = colMax X g b c := by
  pointwise
  simp only [h, bot_word]
  rfl

/-- The exponents' sequence of operations, of any largest magnitudes and candidates. -/
theorem colExp_of {m : FVec Ideal S2048x448 .f32} {cs : FVec Ideal S254 .f32} {a : EReal} {c : Fin 2048} {b : Fin 448}
    (hm : m (ix2 c b) = a) (hc : ∀ k : Fin 254, cs (ix1 k) = cand k) :
    select (cmpf .oeq m (broadcast S2048x448 (Scalar.ofBits .f32 0x00000000#32)))
      (broadcast S2048x448 (Scalar.ofBits .f32 0x00000000#32))
      (multiReduction .minimumf [2] S2048x448
        (select
          (cmpf .olt
            (broadcastTo S2048x448x254
              (shapeCast S2048x448x1 (mulf m (broadcast S2048x448 (Scalar.ofBits .f32 0x3B124925#32)))
                shapeCasts_S2048x448_S2048x448x1) broadcasts_S2048x448x1_S2048x448x254)
            (broadcastTo S2048x448x254 (shapeCast S1x1x254 (exp2 cs) shapeCasts_S254_S1x1x254)
              broadcasts_S1x1x254_S2048x448x254))
          (broadcastTo S2048x448x254 (shapeCast S1x1x254 cs shapeCasts_S254_S1x1x254) broadcasts_S1x1x254_S2048x448x254)
          (broadcast S2048x448x254 (Scalar.ofBits .f32 0x43000000#32)))
        0x7F800000#32 reduces_S2048x448x254_S2048x448 (.inl rfl) rfl) (ix2 c b) = rexp a := by
  unfold rexp
  generalize hz : (if a = 0 then (0 : EReal) else _) = z
  pointwise
  simp only [hm, hc, top_word]
  exact hz

theorem colExp_apply (h : Reads X g v0 w) (c : Fin 2048) (b : Fin 448) :
    k0_pay11 (k0_pay4 v0 w) (ix2 c b) = rexp (colMax X g b c) := by
  unfold k0_pay11
  exact colExp_of (colMax_apply (colGroup_apply h c b)) cand_apply

theorem colScales_apply (h : Reads X g v0 w) (c : Fin 2048) (b : Fin 448) :
    k0_pay12 (k0_pay4 v0 w) (ix2 c b) = rscale (colMax X g b c) := by
  unfold k0_pay12 rscale
  rw [exp2_at, colExp_apply h]

/-- The codes' sequence of operations, of any groups and exponents. -/
theorem colCodes_of {u : FVec Ideal S2048x448x128 .f32} {e : FVec Ideal S2048x448 .f32} {c : Fin 2048} {r : Fin 57344} :
    k0_pay1 u (broadcastTo S2048x448x128 (shapeCast S2048x448x1
        (exp2 (subf (broadcast S2048x448 (Scalar.ofBits .f32 0x00000000#32)) e)) shapeCasts_S2048x448_S2048x448x1)
        broadcasts_S2048x448x1_S2048x448x128) (ix2 c r)
      = code (u (ix3 c ⟨r / 128, by omega⟩ ⟨r % 128, by omega⟩)) (Ideal.exp2 (0 - e (ix2 c ⟨r / 128, by omega⟩))) := by
  pointwise [k0_pay1]
  rfl

theorem colCodes_apply (h : Reads X g v0 w) (c : Fin 2048) (r : Fin 57344) :
    k0_pay1 (k0_pay10 (k0_pay4 v0 w)) (k0_pay13 (k0_pay4 v0 w)) (ix2 c r)
      = code (y X g r c) (rinv (colMax X g (r / 128) c)) := by
  unfold k0_pay13 rinv
  dsimp only
  rw [colCodes_of, colGroup_apply h, colExp_apply h]
  dsimp only
  rw [Nat.div_add_mod]

end Cert.ReferenceBody

end
-- ==== Proof.ReferenceValue.lean ====
/-
  The reference's five results after a run, as the arrays of Results.lean.

  The reference has one grid point, whose blocks are the whole arrays; before it the activations are reshaped to rows.
-/
module

public import proofs.«01_k».proof.Proof.ReferenceBody
public import proofs.«01_k».proof.Proof.Gen.ReferenceIdeal.Frame
public import Idealize.ShloMosaic.Lib.Pipeline.Value
public import Idealize.ShloMosaic.Lib.Pipeline.ValueKit

@[expose] public section

set_option maxRecDepth 16384

noncomputable section

namespace Cert.ReferenceValue

open Idealize.ShloMosaic Idealize.ShloMosaic.TcCoe Idealize.SL.Sem
open Idealize.ShloMosaic.Pipeline (Dat)
open Cert.ReferenceIdeal Cert.ReferenceIdeal.Gen Cert.Scale Cert.Formula Cert.ReferenceBody Cert.Results

/-! ## What the body leaves in each result's buffer -/

section Body

variable {X : ℕ → ℕ → EReal} {g : ℕ → EReal} {x0 : Vec Ideal S57344x2048 .bf16} {x1 : Vec Ideal S2048 .bf16}

theorem zero2 : (![0, 0] : Fin 2 → ℕ) = fun _ => 0 := by decide
theorem zero1 : (![0] : Fin 1 → ℕ) = fun _ => 0 := by decide

theorem out2 (h : Reads X g x0 x1) : out0_2 x0 x1 = rowCodes rinv X g := by
  unfold out0_2
  rw [View.canon_unit_zero zero2, View.ld_unit_zero zero2, View.ld_unit_zero zero1]
  funext j
  rw [eq_ix2 j]
  exact rowCodes_apply h (j 0) (j 1)

theorem out3 (h : Reads X g x0 x1) : out0_3 x0 x1 = rowScales rscale X g := by
  unfold out0_3
  rw [View.canon_unit_zero zero2, View.ld_unit_zero zero2, View.ld_unit_zero zero1]
  funext j
  rw [eq_ix2 j]
  exact rowScales_apply h (j 0) (j 1)

theorem out4 (h : Reads X g x0 x1) : out0_4 x0 x1 = colCodes rinv X g := by
  unfold out0_4 k0_pay14
  rw [View.canon_unit_zero zero2, View.ld_unit_zero zero2, View.ld_unit_zero zero1]
  funext j
  rw [eq_ix2 j]
  exact colCodes_apply h (j 0) (j 1)

theorem out5 (h : Reads X g x0 x1) : out0_5 x0 x1 = colScales rscale X g := by
  unfold out0_5 k0_pay14
  rw [View.canon_unit_zero zero2, View.ld_unit_zero zero2, View.ld_unit_zero zero1]
  funext j
  rw [eq_ix2 j]
  exact colScales_apply h (j 0) (j 1)

theorem out6 (h : Reads X g x0 x1) : out0_6 x0 x1 = rsigs X := by
  unfold out0_6
  rw [View.canon_unit_zero zero1, View.ld_unit_zero zero2]
  funext j
  rw [eq_ix1 j]
  exact rsig_apply h (j 0)

end Body

/-! ## The arrays after the run -/

variable (m : (ℓ : Loc nD τ sig) → Buf (Elt Ideal) ℓ) (c : Dev nD)

/-- The activations and the weights as launched. -/
abbrev X : ℕ → ℕ → EReal := act (m ((c : Thread nD τ).loc main_arg0))
abbrev W : ℕ → EReal := wt (m ((c : Thread nD τ).loc main_arg1))

/-- Each window's block lies at the origin. -/
theorem idx : ∀ t : Fin cfg0.N, win0_0.index t = ![0, 0] ∧ win0_1.index t = ![0] ∧ win0_2.index t = ![0, 0]
    ∧ win0_3.index t = ![0, 0] ∧ win0_4.index t = ![0, 0] ∧ win0_5.index t = ![0, 0] ∧ win0_6.index t = ![0] :=
  (by decide +kernel : ∀ t : Fin grid0.N, _)

theorem entry0 : V m c main_v0
    = shapeCast S57344x2048 (m ((c : Thread nD τ).loc main_arg0)) shapeCasts_S14x4096x2048_S57344x2048 := by
  simp only [V, hostOps0]
  rw [StableHlo.after_cons, StableHlo.after_nil, StableHlo.reshape_result]
  rfl

/-- The activations as the body finds them: the rows of 2048, in order. -/
theorem entry_acts (r : Fin 57344) (k : Fin 2048) : V m c main_v0 (ix2 r k) = X m c r k := by
  rw [entry0]
  exact act_eq _ _ r k

theorem entry_wts (k : Fin 2048) : V m c main_arg1 (ix1 k) = W m c k := by
  rw [V_main_arg1]
  exact wt_eq _ k

/-- What the body is given. -/
theorem reads (t : Fin cfg0.N) : Reads (X m c) (W m c) (iblk m c 0 t) (iblk m c 1 t) where
  acts r k := by
    refine Eq.trans ?_ (entry_acts m c r k)
    blk_point [iblk, idx t]
  wts k := by
    refine Eq.trans ?_ (entry_wts m c k)
    blk_point [iblk, idx t]

theorem array2 : (dats m 0 c).arrAt 2 (cfgs 0).N = rowCodes rinv (X m c) (W m c) := by
  refine (dats m 0 c).arrAt_eq_of_after_last 2 t0_0 (by decide +kernel) _ fun j => ?_
  blk_simp
  rw [after0_2, out2 (reads m c t0_0)]

theorem array3 : (dats m 0 c).arrAt 3 (cfgs 0).N = rowScales rscale (X m c) (W m c) := by
  refine (dats m 0 c).arrAt_eq_of_after_last 3 t0_0 (by decide +kernel) _ fun j => ?_
  blk_simp
  rw [after0_3, out3 (reads m c t0_0)]

theorem array4 : (dats m 0 c).arrAt 4 (cfgs 0).N = colCodes rinv (X m c) (W m c) := by
  refine (dats m 0 c).arrAt_eq_of_after_last 4 t0_0 (by decide +kernel) _ fun j => ?_
  blk_simp
  rw [after0_4, out4 (reads m c t0_0)]

theorem array5 : (dats m 0 c).arrAt 5 (cfgs 0).N = colScales rscale (X m c) (W m c) := by
  refine (dats m 0 c).arrAt_eq_of_after_last 5 t0_0 (by decide +kernel) _ fun j => ?_
  blk_simp
  rw [after0_5, out5 (reads m c t0_0)]

theorem array6 : (dats m 0 c).arrAt 6 (cfgs 0).N = rsigs (X m c) := by
  refine (dats m 0 c).arrAt_eq_of_after_last 6 t0_0 (by decide +kernel) _ fun j => ?_
  blk_simp
  rw [after0_6, out6 (reads m c t0_0)]

/-- The reference runs, ends with the five arrays of Results.lean in the mathematics' spelling of the scales, and leaves
    its arguments as they were. -/
theorem run (ρ : Dev nD → PrngReg) :
    θ_run defs (onTc (τ := τ) (main (F := Ideal))) ⟨m, fun _ => 0, ρ⟩ fun r => ∀ c : Dev nD,
      r.2.mem ((c : Thread nD τ).loc main_v1_0) = rowCodes rinv (X m c) (W m c)
      ∧ r.2.mem ((c : Thread nD τ).loc main_v1_1) = rowScales rscale (X m c) (W m c)
      ∧ r.2.mem ((c : Thread nD τ).loc main_v1_2) = colCodes rinv (X m c) (W m c)
      ∧ r.2.mem ((c : Thread nD τ).loc main_v1_3) = colScales rscale (X m c) (W m c)
      ∧ r.2.mem ((c : Thread nD τ).loc main_v1_4) = rsigs (X m c)
      ∧ r.2.mem ((c : Thread nD τ).loc main_arg0) = m ((c : Thread nD τ).loc main_arg0)
      ∧ r.2.mem ((c : Thread nD τ).loc main_arg1) = m ((c : Thread nD τ).loc main_arg1) :=
  θ_run_mono (Gen.run_main m ρ) fun _ h c =>
    ⟨(h.out_eq c 2).trans (array2 m c), (h.out_eq c 3).trans (array3 m c), (h.out_eq c 4).trans (array4 m c),
      (h.out_eq c 5).trans (array5 m c), (h.out_eq c 6).trans (array6 m c),
      (h.rest_eq c main_arg0 (Pipeline.mem_restRefs_of _ (by decide) (by decide))).trans (V_main_arg0 m c),
      (h.in_eq c 1 rfl).trans ((A_eq m c 1).trans (V_main_arg1 m c))⟩

end Cert.ReferenceValue

end
-- ==== Proof.Precondition.lean ====
/-
  The precondition at the extended reals: every weight is a real number of magnitude at most the largest finite value
  of the format, which is below `2^128`.
-/
module

public import proofs.«01_k».proof.Pre_gamma_is_finite
public import proofs.«01_k».proof.Proof.Results

@[expose] public section

set_option maxRecDepth 16384

noncomputable section

namespace Cert.Precondition

open Idealize.ShloMosaic Cert.Scale Cert.Formula Cert.Results

theorem facts : Cert.Pre_gamma_is_finite.Facts where
  bitsLt_bf16_f32 := by decide
  bcast_S_S2048 := by decide

/-- The largest finite weight. -/
theorem limit_eq : ∃ q : ℝ, q ≤ (2 : ℝ) ^ 128 ∧ Ideal.ofBits .f32 0x7F7F0000#32 = (q : EReal) := by
  refine ⟨(2 ^ 23 + 8323072 : ℕ) * (2 : ℝ) ^ (104 : ℤ), by norm_num, ?_⟩
  have h1 : ((0x7F7F0000#32).extractLsb' 23 8).toNat = 254 := by decide
  have h2 : ((0x7F7F0000#32).extractLsb' 0 23).toNat = 8323072 := by decide
  have h3 : ((0x7F7F0000#32).extractLsb' 31 1 == 1#1) = false := by decide
  simp only [Ideal.ofBits, Ideal.ieee]
  rw [h1, h2, h3, if_neg (by norm_num), if_neg (by norm_num)]
  refine congrArg Real.toEReal ?_
  norm_num

theorem of_one {p : Prop} [Decidable p] (h : BitVec.ofBool (decide p) = 1#1) : p := by
  by_contra hn
  rw [decide_eq_false hn] at h
  exact absurd h (by decide)

/-- A value of magnitude at most a real is a real of that magnitude. -/
theorem real_of_mag {v : EReal} {q : ℝ} (h : max v (-v) ≤ (q : EReal)) : ∃ w : ℝ, |w| ≤ q ∧ v = (w : EReal) := by
  induction v using EReal.rec with
  | bot => exact absurd h (by simp)
  | top => exact absurd h (by simp)
  | coe w =>
    refine ⟨w, abs_le'.2 ⟨?_, ?_⟩, rfl⟩
    · exact_mod_cast (le_max_left _ _).trans h
    · exact_mod_cast (le_max_right _ _).trans h

/-- The precondition makes the weights finite. -/
theorem finite (x : FVec Ideal Cert.Pre_gamma_is_finite.S14x4096x2048 .bf16) (w : FVec Ideal Cert.Pre_gamma_is_finite.S2048 .bf16)
    (h : letI := facts; Cert.Pre_gamma_is_finite.fn (F := Ideal) x w = fun _ => 1#1) : Finite (wt w) := by
  intro c hc
  obtain ⟨q, hq, e⟩ := limit_eq
  have h1 := congrFun h (ix1 ⟨c, hc⟩)
  rw [← wt_eq w ⟨c, hc⟩]
  pointwise [Cert.Pre_gamma_is_finite.fn] at h1
  have h2 := (of_one h1).trans_eq e
  obtain ⟨v, hv, ev⟩ := real_of_mag h2
  exact ⟨v, hv.trans hq, ev⟩

end Cert.Precondition

end
-- ==== Proof.lean ====
/-
  The proof of `Cert.Claim`.

  The three programs run and leave their arguments as they were by the generated frames. The kernel and the reference
  each end with the arrays of Results.lean, the one with the scales spelt from the exponent field, the other with the
  powers of two of the mathematics; with finite weights the two spellings agree.
-/
module

public import proofs.«01_k».proof.Defs
public import proofs.«01_k».proof.Proof.Gen.Kernel.Frame
public import proofs.«01_k».proof.Proof.KernelValue
public import proofs.«01_k».proof.Proof.ReferenceValue
public import proofs.«01_k».proof.Proof.Precondition
public import Idealize.ShloMosaic.Adequacy
public import Idealize.ShloMosaic.Init

@[expose] public section

noncomputable section

namespace Cert.Proof

open Idealize.ShloMosaic Idealize.SL.Sem Cert.Scale Cert.Results

/-- From equal arguments with finite weights, the kernel and the reference end with the same five results. -/
theorem algebraic : Cert.algebraic_KernelIdeal_ReferenceIdeal_pre_gamma_is_finite
    (hKernelIdeal := Cert.KernelIdeal.Gen.facts) (hReferenceIdeal := Cert.ReferenceIdeal.Gen.facts)
    (hPre_gamma_is_finite := Cert.Precondition.facts) := by
  intro m ρ m' ρ' pre same
  have hx : ∀ c, ReferenceValue.X m' c = KernelValue.X m c := fun c => congrArg act (same c).1
  have hw : ∀ c, ReferenceValue.W m' c = KernelValue.W m c := fun c => congrArg wt (same c).2
  have fin : ∀ c, Formula.Finite (KernelValue.W m c) := fun c => Precondition.finite _ _ (pre c)
  refine ⟨fun c => rowCodes rinv (KernelValue.X m c) (KernelValue.W m c),
    fun c => rowScales rscale (KernelValue.X m c) (KernelValue.W m c),
    fun c => colCodes rinv (KernelValue.X m c) (KernelValue.W m c),
    fun c => colScales rscale (KernelValue.X m c) (KernelValue.W m c),
    fun c => rsigs (KernelValue.X m c), ?_, ?_⟩
  · refine θ_run_mono (KernelValue.run m ρ) fun r h c => ?_
    obtain ⟨h0, h1, h2, h3, h4, h5, h6⟩ := h c
    exact ⟨h0.trans (rowCodes_eq _ (fin c)), h1.trans (rowScales_eq _ (fin c)), h2.trans (colCodes_eq _ (fin c)),
      h3.trans (colScales_eq _ (fin c)), h4, h5, h6⟩
  · refine θ_run_mono (ReferenceValue.run m' ρ') fun r h c => ?_
    have h := h c
    rw [hx c, hw c] at h
    exact h

theorem claim : Cert.Claim :=
  ⟨Cert.Kernel.Gen.facts, Cert.KernelIdeal.Gen.facts, Cert.ReferenceIdeal.Gen.facts, Cert.Precondition.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, algebraic⟩

end Cert.Proof

end
